-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x256x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S4x2x256x256 : Shape := ⟨4, ![4, 2, 256, 256]⟩
abbrev S4x2x4x256 : Shape := ⟨4, ![4, 2, 4, 256]⟩
abbrev S12 : Shape := ⟨1, ![12]⟩
abbrev S_ : Shape := ⟨0, ![]⟩
abbrev S256x256 : Shape := ⟨2, ![256, 256]⟩
abbrev S512x512 : Shape := ⟨2, ![512, 512]⟩
abbrev S1x256x4x64 : Shape := ⟨4, ![1, 256, 4, 64]⟩
abbrev S256x4x64 : Shape := ⟨3, ![256, 4, 64]⟩
abbrev S256x64 : Shape := ⟨2, ![256, 64]⟩
abbrev S256 : Shape := ⟨1, ![256]⟩
abbrev S256x1 : Shape := ⟨2, ![256, 1]⟩
abbrev S1x1x256x64 : Shape := ⟨4, ![1, 1, 256, 64]⟩
abbrev S1x1x1x256 : Shape := ⟨4, ![1, 1, 1, 256]⟩
abbrev S1 : Shape := ⟨1, ![1]⟩
abbrev S1x1x4x256 : Shape := ⟨4, ![1, 1, 4, 256]⟩
abbrev S4x256 : Shape := ⟨2, ![4, 256]⟩
abbrev S1x1x256x256 : Shape := ⟨4, ![1, 1, 256, 256]⟩
abbrev S256x4 : Shape := ⟨2, ![256, 4]⟩
abbrev S1x256x512 : Shape := ⟨3, ![1, 256, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S4x2x256x256, .bf16⟩
  | .local _ .vmem, ⟨7, _⟩ => ⟨S4x2x4x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_86 : BitVec 32 := 1#32
  let v166 : BitVec 32 := Scalar.muli v7 c1_i32_86
  let v167 : BitVec 32 := Scalar.addi c0_i32_87 v166
  v167.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_98 : BitVec 32 := 1#32
  let v176 : BitVec 32 := Scalar.muli v7 c1_i32_98
  let v177 : BitVec 32 := Scalar.addi c0_i32_99 v176
  v177.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_110 : BitVec 32 := 1#32
  let v186 : BitVec 32 := Scalar.muli v5 c1_i32_110
  let v187 : BitVec 32 := Scalar.addi c0_i32_111 v186
  v187.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_122 : BitVec 32 := 1#32
  let v196 : BitVec 32 := Scalar.muli v5 c1_i32_122
  let v197 : BitVec 32 := Scalar.addi c0_i32_123 v196
  v197.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_133 : BitVec 32 := 1#32
  let v206 : BitVec 32 := Scalar.muli v9 c1_i32_133
  let v207 : BitVec 32 := Scalar.addi c0_i32_134 v206
  v207.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_145 : BitVec 32 := 1#32
  let v216 : BitVec 32 := Scalar.muli v9 c1_i32_145
  let v217 : BitVec 32 := Scalar.addi c0_i32_146 v216
  v217.toNat
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_207 : BitVec 32 := 1#32
  let v311 : BitVec 32 := Scalar.muli v7 c1_i32_207
  let v312 : BitVec 32 := Scalar.addi c0_i32_208 v311
  v312.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_219 : BitVec 32 := 1#32
  let v321 : BitVec 32 := Scalar.muli v7 c1_i32_219
  let v322 : BitVec 32 := Scalar.addi c0_i32_220 v321
  v322.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_229 : BitVec 32 := 1#32
  let v331 : BitVec 32 := Scalar.muli v5 c1_i32_229
  let v332 : BitVec 32 := Scalar.addi c0_i32_230 v331
  v332.toNat
def k0_dev13 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_241 : BitVec 32 := 1#32
  let v341 : BitVec 32 := Scalar.muli v5 c1_i32_241
  let v342 : BitVec 32 := Scalar.addi c0_i32_242 v341
  v342.toNat
def k0_dev14 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_251 : BitVec 32 := 1#32
  let v351 : BitVec 32 := Scalar.muli v9 c1_i32_251
  let v352 : BitVec 32 := Scalar.addi c0_i32_252 v351
  v352.toNat
def k0_dev15 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_263 : BitVec 32 := 1#32
  let v361 : BitVec 32 := Scalar.muli v9 c1_i32_263
  let v362 : BitVec 32 := Scalar.addi c0_i32_264 v361
  v362.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x4x256x1024 : Shape := ⟨4, ![2, 4, 256, 1024]⟩
abbrev S1x1x256x1024 : Shape := ⟨4, ![1, 1, 256, 1024]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x256, .f32⟩
  | 2 => ⟨S2x1024x4x64, .f32⟩
  | 3 => ⟨S2x1024x4x64, .f32⟩
  | 4 => ⟨S256x512, .f32⟩
  | 5 => ⟨S2x256x256, .f32⟩
  | 6 => ⟨S2x256x4x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S256x1024, .i32⟩
  | 48 => ⟨S256x1024, .i32⟩
  | 49 => ⟨S256x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x1024, .i32⟩
  | 95 => ⟨S256x1024, .i32⟩
  | 96 => ⟨S256x1024, .i1⟩
  | 97 => ⟨S256x1024, .i1⟩
  | 98 => ⟨S2x4x256x1024, .f32⟩
  | 99 => ⟨S_, .f32⟩
  | 100 => ⟨S2x4x256x1024, .f32⟩
  | 101 => ⟨S2x4x256x1024, .f32⟩
  | 102 => ⟨S1x1x256x1024, .i1⟩
  | 103 => ⟨S_, .f32⟩
  | 104 => ⟨S_, .f32⟩
  | 105 => ⟨S2x4x256x1024, .i1⟩
  | 106 => ⟨S2x4x256x1024, .f32⟩
  | 107 => ⟨S2x4x256x1024, .f32⟩
  | 108 => ⟨S_, .f32⟩
  | 109 => ⟨S2x4x256, .f32⟩
  | 110 => ⟨S2x4x256x1, .f32⟩
  | 111 => ⟨S2x4x256x1024, .f32⟩
  | 112 => ⟨S2x4x256x1024, .f32⟩
  | 113 => ⟨S2x4x256x1024, .f32⟩
  | 114 => ⟨S_, .i1⟩
  | 115 => ⟨S256, .i1⟩
  | 116 => ⟨S1x1x256x1, .i1⟩
  | 117 => ⟨S_, .f32⟩
  | 118 => ⟨S2x4x256, .f32⟩
  | 119 => ⟨S2x4x256x1, .f32⟩
  | 120 => ⟨S_, .f32⟩
  | 121 => ⟨S_, .f32⟩
  | 122 => ⟨S2x4x256x1, .i1⟩
  | 123 => ⟨S2x4x256x1, .f32⟩
  | 124 => ⟨S2x4x256x1, .f32⟩
  | 125 => ⟨S2x4x256x1024, .f32⟩
  | 126 => ⟨S2x4x256x1024, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x4x256x1024, .i1⟩
  | 3 => ⟨S2x4x256x1024, .f32⟩
  | 4 => ⟨S2x4x256x1024, .f32⟩
  | 5 => ⟨S2x4x64x256, .f32⟩
  | 6 => ⟨S2x256x4x64, .f32⟩
  | 7 => ⟨S2x256x256, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Slots.lean ====
/-
The scratch buffers of the kernel, slot by slot: `cc0_scratch0` (the weighted sums) and `cc0_scratch1` (the sums of
weights) are each 4 × 2 slots, one per sender and batch. This module names the slots' memrefs and element sets, what a
store, a load or a transfer of a slot does to contents, and the DMA semaphores of the two arrays.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The slots -/

/-- The two scratch buffers as memrefs. -/
abbrev ctxM : Memref sig .tc .vmem S4x2x256x256 .bf16 := Memref.whole cc0_scratch0
abbrev stM : Memref sig .tc .vmem S4x2x4x256 .f32 := Memref.whole cc0_scratch1

theorem inbC (s : Fin 4) (b : Fin 2) : ∀ a, (![s.val, b.val, 0, 0] : Fin 4 → ℕ) a + S1x1x256x256.size a ≤ S4x2x256x256.size a := by
  revert s b; decide
theorem inbS (s : Fin 4) (b : Fin 2) : ∀ a, (![s.val, b.val, 0, 0] : Fin 4 → ℕ) a + S1x1x4x256.size a ≤ S4x2x4x256.size a := by
  revert s b; decide

/-- Slot `s` of batch `b`, as a rectangle of its buffer and as the memref that the transfers name. -/
abbrev rectC (s : Fin 4) (b : Fin 2) : Rect S4x2x256x256 := Rect.unit (s := S4x2x256x256) ![s.val, b.val, 0, 0] S1x1x256x256.size (inbC s b)
abbrev rectS (s : Fin 4) (b : Fin 2) : Rect S4x2x4x256 := Rect.unit (s := S4x2x4x256) ![s.val, b.val, 0, 0] S1x1x4x256.size (inbS s b)
abbrev slotC (s : Fin 4) (b : Fin 2) : Memref sig .tc .vmem S256x256 .bf16 :=
  (ctxM.slice (rectC s b) (fun _ => rfl)).squeeze S256x256 squeezes_S1x1x256x256_S256x256
abbrev slotS (s : Fin 4) (b : Fin 2) : Memref sig .tc .vmem S4x256 .f32 :=
  (stM.slice (rectS s b) (fun _ => rfl)).squeeze S4x256 squeezes_S1x1x4x256_S4x256

/-- The slots' element sets: the first two coordinates are the slot's. -/
def setC (s : Fin 4) (b : Fin 2) : Finset S4x2x256x256.Idx := (rectC s b).set
def setS (s : Fin 4) (b : Fin 2) : Finset S4x2x4x256.Idx := (rectS s b).set

theorem mem_setC {s : Fin 4} {b : Fin 2} {p : S4x2x256x256.Idx} : p ∈ setC s b ↔ (p 0).val = s.val ∧ (p 1).val = b.val := by
  unfold setC
  rw [Rect.mem_set_unit]
  constructor
  · intro h
    have h0 := h 0; have h1 := h 1
    exact ⟨by have := h0.1; have := h0.2; simp at *; omega, by have := h1.1; have := h1.2; simp at *; omega⟩
  · rintro ⟨h0, h1⟩ a
    have ha := (p a).isLt
    fin_cases a <;> simp at * <;> omega
theorem mem_setS {s : Fin 4} {b : Fin 2} {p : S4x2x4x256.Idx} : p ∈ setS s b ↔ (p 0).val = s.val ∧ (p 1).val = b.val := by
  unfold setS
  rw [Rect.mem_set_unit]
  constructor
  · intro h
    have h0 := h 0; have h1 := h 1
    exact ⟨by have := h0.1; have := h0.2; simp at *; omega, by have := h1.1; have := h1.2; simp at *; omega⟩
  · rintro ⟨h0, h1⟩ a
    have ha := (p a).isLt
    fin_cases a <;> simp at * <;> omega

theorem slotC_set (s : Fin 4) (b : Fin 2) : (slotC s b).view.set = setC s b := by
  show ((((View.whole cc0_scratch0).slice (rectC s b)).reshape _ _)).set = _
  rw [View.set_reshape, View.set_slice]; exact Finset.map_refl
theorem slotS_set (s : Fin 4) (b : Fin 2) : (slotS s b).view.set = setS s b := by
  show ((((View.whole cc0_scratch1).slice (rectS s b)).reshape _ _)).set = _
  rw [View.set_reshape, View.set_slice]; exact Finset.map_refl

/-- Different slots share no element. -/
theorem disjC (k k' : Fin 4 × Fin 2) (h : k ≠ k') : Disjoint (setC k.1 k.2) (setC k'.1 k'.2) := by
  rw [Finset.disjoint_left]; intro p hp hp'
  rw [mem_setC] at hp hp'
  exact h (Prod.ext (Fin.ext (hp.1.symm.trans hp'.1)) (Fin.ext (hp.2.symm.trans hp'.2)))
theorem disjS (k k' : Fin 4 × Fin 2) (h : k ≠ k') : Disjoint (setS k.1 k.2) (setS k'.1 k'.2) := by
  rw [Finset.disjoint_left]; intro p hp hp'
  rw [mem_setS] at hp hp'
  exact h (Prod.ext (Fin.ext (hp.1.symm.trans hp'.1)) (Fin.ext (hp.2.symm.trans hp'.2)))
/-- The slots are the whole buffer. -/
theorem coverC : (Finset.univ.biUnion fun k : Fin 4 × Fin 2 => setC k.1 k.2) = Finset.univ := by
  ext p; simp only [Finset.mem_biUnion, Finset.mem_univ, true_and, iff_true]
  exact ⟨(⟨(p 0).val, (p 0).isLt⟩, ⟨(p 1).val, (p 1).isLt⟩), mem_setC.mpr ⟨rfl, rfl⟩⟩
theorem coverS : (Finset.univ.biUnion fun k : Fin 4 × Fin 2 => setS k.1 k.2) = Finset.univ := by
  ext p; simp only [Finset.mem_biUnion, Finset.mem_univ, true_and, iff_true]
  exact ⟨(⟨(p 0).val, (p 0).isLt⟩, ⟨(p 1).val, (p 1).isLt⟩), mem_setS.mpr ⟨rfl, rfl⟩⟩

/-! ## Contents -/

/-- Contents of the weighted sums' buffer that hold, in every slot, head `h`'s block `g h` at columns `64 h …`; and of the
    buffer of sums of weights, head `h`'s row `g h`. -/
def fillC (g : Fin 4 → Vec F S1x1x256x64 .bf16) : S4x2x256x256.Idx → Elt F .bf16 := fun p =>
  g ⟨(p 3).val / 64, by have := (p 3).isLt; simp at this; omega⟩
    (fun a => ⟨(![0, 0, (p 2).val, (p 3).val % 64] : Fin 4 → ℕ) a, by
      have := (p 2).isLt; have := Nat.mod_lt (p 3).val (show 0 < 64 by decide); simp at *; fin_cases a <;> simp <;> omega⟩)
def fillS (g : Fin 4 → Vec F S1x1x1x256 .f32) : S4x2x4x256.Idx → Elt F .f32 := fun p =>
  g ⟨(p 2).val, (p 2).isLt⟩
    (fun a => ⟨(![0, 0, 0, (p 3).val] : Fin 4 → ℕ) a, by
      have := (p 3).isLt; simp at *; fin_cases a <;> simp <;> omega⟩)
/-- A slot of sums of weights, as one load reads it. -/
def rowsS (g : Fin 4 → Vec F S1x1x1x256 .f32) : Vec F S1x1x4x256 .f32 := fun i =>
  g ⟨(i 2).val, (i 2).isLt⟩
    (fun a => ⟨(![0, 0, 0, (i 3).val] : Fin 4 → ℕ) a, by
      have := (i 3).isLt; simp at *; fin_cases a <;> simp <;> omega⟩)

omit [FloatOps F] [Named F] in
/-- A transfer of slot `(0, b)` into slot `(s, b)` of contents that hold `g` in every slot leaves the target slot holding `g`. -/
theorem landedC (g : Fin 4 → Vec F S1x1x256x64 .bf16) (s : Fin 4) (b : Fin 2) (fd : S4x2x256x256.Idx → Elt F .bf16) :
    ∀ p ∈ setC s b, (slotC s b).view.write (Elt F) fd ((slotC 0 b).view.read (Elt F) (fillC g)) Finset.univ p = fillC g p := by
  intro p hp
  rw [← slotC_set] at hp
  obtain ⟨x, -, rfl⟩ := Finset.mem_map.mp hp
  rw [View.write_emb_of_mem _ _ (Finset.mem_univ x)]
  rfl
omit [FloatOps F] [Named F] in
theorem landedS (g : Fin 4 → Vec F S1x1x1x256 .f32) (s : Fin 4) (b : Fin 2) (fd : S4x2x4x256.Idx → Elt F .f32) :
    ∀ p ∈ setS s b, (slotS s b).view.write (Elt F) fd ((slotS 0 b).view.read (Elt F) (fillS g)) Finset.univ p = fillS g p := by
  intro p hp
  rw [← slotS_set] at hp
  obtain ⟨x, -, rfl⟩ := Finset.mem_map.mp hp
  rw [View.write_emb_of_mem _ _ (Finset.mem_univ x)]
  rfl

/-! ## Loads and stores of heads and rows -/

theorem inbH (s : Fin 4) (b : Fin 2) (h : Fin 4) :
    ∀ a, (![s.val, b.val, 0, 64 * h.val] : Fin 4 → ℕ) a + S1x1x256x64.size a ≤ S4x2x256x256.size a := by
  revert s b h; decide
theorem inbR (s : Fin 4) (b : Fin 2) (h : Fin 4) :
    ∀ a, (![s.val, b.val, h.val, 0] : Fin 4 → ℕ) a + S1x1x1x256.size a ≤ S4x2x4x256.size a := by
  revert s b h; decide
/-- Head `h` of a slot of weighted sums; row `h` of a slot of sums of weights. -/
abbrev rectH (s : Fin 4) (b : Fin 2) (h : Fin 4) : Rect S4x2x256x256 :=
  Rect.unit (s := S4x2x256x256) ![s.val, b.val, 0, 64 * h.val] S1x1x256x64.size (inbH s b h)
abbrev rectR (s : Fin 4) (b : Fin 2) (h : Fin 4) : Rect S4x2x4x256 :=
  Rect.unit (s := S4x2x4x256) ![s.val, b.val, h.val, 0] S1x1x1x256.size (inbR s b h)

theorem mem_rectH {s : Fin 4} {b : Fin 2} {h : Fin 4} {p : S4x2x256x256.Idx} :
    p ∈ (rectH s b h).set ↔ p ∈ setC s b ∧ (p 3).val / 64 = h.val := by
  rw [Rect.mem_set_unit, mem_setC]
  constructor
  · intro hh
    have h0 := hh 0; have h1 := hh 1; have h3 := hh 3
    simp at h0 h1 h3
    exact ⟨⟨by omega, by omega⟩, by omega⟩
  · rintro ⟨⟨h0, h1⟩, h3⟩ a
    have ha := (p a).isLt
    fin_cases a <;> simp at * <;> omega
theorem mem_rectR {s : Fin 4} {b : Fin 2} {h : Fin 4} {p : S4x2x4x256.Idx} :
    p ∈ (rectR s b h).set ↔ p ∈ setS s b ∧ (p 2).val = h.val := by
  rw [Rect.mem_set_unit, mem_setS]
  constructor
  · intro hh
    have h0 := hh 0; have h1 := hh 1; have h2 := hh 2
    simp at h0 h1 h2
    exact ⟨⟨by omega, by omega⟩, by omega⟩
  · rintro ⟨⟨h0, h1⟩, h2⟩ a
    have ha := (p a).isLt
    fin_cases a <;> simp at * <;> omega

theorem accessH_set (s : Fin 4) (b : Fin 2) (h : Fin 4) : ((ctxM.access (rectH s b h) : View sig .tc _ _ _).set) = (rectH s b h).set := by
  show ((View.whole cc0_scratch0).slice (rectH s b h)).set = _
  rw [View.set_slice]; exact Finset.map_refl
theorem accessR_set (s : Fin 4) (b : Fin 2) (h : Fin 4) : ((stM.access (rectR s b h) : View sig .tc _ _ _).set) = (rectR s b h).set := by
  show ((View.whole cc0_scratch1).slice (rectR s b h)).set = _
  rw [View.set_slice]; exact Finset.map_refl

/-- A load or store of a head, of a row or of a slot stays in its slot. -/
theorem storeH_sub (s : Fin 4) (b : Fin 2) (h : Fin 4) : (ctxM.access (rectH s b h) : View sig .tc _ _ _).setOn Finset.univ ⊆ setC s b := by
  rw [View.setOn_univ, accessH_set]; intro p hp; exact (mem_rectH.mp hp).1
theorem storeR_sub (s : Fin 4) (b : Fin 2) (h : Fin 4) : (stM.access (rectR s b h) : View sig .tc _ _ _).setOn Finset.univ ⊆ setS s b := by
  rw [View.setOn_univ, accessR_set]; intro p hp; exact (mem_rectR.mp hp).1
theorem loadH_sub (s : Fin 4) (b : Fin 2) (h : Fin 4) : (ctxM.view).setOn (rectH s b h).toLoadRect.set ⊆ setC s b := by
  rw [show (ctxM.view).setOn (rectH s b h).toLoadRect.set = (rectH s b h).set from Finset.map_refl]
  intro p hp; exact (mem_rectH.mp hp).1
theorem loadR_sub (s : Fin 4) (b : Fin 2) (h : Fin 4) : (stM.view).setOn (rectR s b h).toLoadRect.set ⊆ setS s b := by
  rw [show (stM.view).setOn (rectR s b h).toLoadRect.set = (rectR s b h).set from Finset.map_refl]
  intro p hp; exact (mem_rectR.mp hp).1
theorem loadS_sub (s : Fin 4) (b : Fin 2) : (stM.view).setOn (rectS s b).toLoadRect.set ⊆ setS s b := by
  rw [show (stM.view).setOn (rectS s b).toLoadRect.set = setS s b from Finset.map_refl]

omit [FloatOps F] [Named F] in
/-- A head stored: its elements hold the stored block, the others what they held. -/
theorem storeH (s : Fin 4) (b : Fin 2) (h : Fin 4) (f : S4x2x256x256.Idx → Elt F .bf16) (w : Vec F S1x1x256x64 .bf16) (p : S4x2x256x256.Idx)
    (hp : p ∈ setC s b) :
    (ctxM.access (rectH s b h) : View sig .tc _ _ _).write (Elt F) f w Finset.univ p = if (p 3).val / 64 = h.val then fillC (fun _ => w) p else f p := by
  split
  · rename_i h3
    have hm : p ∈ (ctxM.access (rectH s b h) : View sig .tc _ _ _).set := by rw [accessH_set]; exact mem_rectH.mpr ⟨hp, h3⟩
    obtain ⟨x, -, rfl⟩ := Finset.mem_map.mp hm
    rw [View.write_emb_of_mem _ _ (Finset.mem_univ x)]
    unfold fillC
    refine congrArg w (funext fun a => Fin.ext ?_)
    have e2 : ((((ctxM.access (rectH s b h) : View sig .tc _ _ _).emb x) 2).val) = 0 + 1 * (x 2).val := rfl
    have e3 : ((((ctxM.access (rectH s b h) : View sig .tc _ _ _).emb x) 3).val) = 64 * h.val + 1 * (x 3).val := rfl
    have x0 : (x 0).val < 1 := (x 0).isLt
    have x1 : (x 1).val < 1 := (x 1).isLt
    have x3 : (x 3).val < 64 := (x 3).isLt
    fin_cases a
    · show (x 0).val = 0; omega
    · show (x 1).val = 0; omega
    · show (x 2).val = _; simp only [e2]; simp
    · show (x 3).val = _; simp only [e3]; simp; omega
  · rename_i h3
    exact View.write_of_not_mem _ _ _ (fun hm => h3 (mem_rectH.mp ((Finset.ext_iff.mp (accessH_set s b h) p).mp hm)).2)
omit [FloatOps F] [Named F] in
theorem storeR (s : Fin 4) (b : Fin 2) (h : Fin 4) (f : S4x2x4x256.Idx → Elt F .f32) (w : Vec F S1x1x1x256 .f32) (p : S4x2x4x256.Idx)
    (hp : p ∈ setS s b) :
    (stM.access (rectR s b h) : View sig .tc _ _ _).write (Elt F) f w Finset.univ p = if (p 2).val = h.val then fillS (fun _ => w) p else f p := by
  split
  · rename_i h3
    have hm : p ∈ (stM.access (rectR s b h) : View sig .tc _ _ _).set := by rw [accessR_set]; exact mem_rectR.mpr ⟨hp, h3⟩
    obtain ⟨x, -, rfl⟩ := Finset.mem_map.mp hm
    rw [View.write_emb_of_mem _ _ (Finset.mem_univ x)]
    unfold fillS
    refine congrArg w (funext fun a => Fin.ext ?_)
    have e3 : ((((stM.access (rectR s b h) : View sig .tc _ _ _).emb x) 3).val) = 0 + 1 * (x 3).val := rfl
    have x0 : (x 0).val < 1 := (x 0).isLt
    have x1 : (x 1).val < 1 := (x 1).isLt
    have x2 : (x 2).val < 1 := (x 2).isLt
    fin_cases a
    · show (x 0).val = 0; omega
    · show (x 1).val = 0; omega
    · show (x 2).val = 0; omega
    · show (x 3).val = _; simp only [e3]; simp
  · rename_i h3
    exact View.write_of_not_mem _ _ _ (fun hm => h3 (mem_rectR.mp ((Finset.ext_iff.mp (accessR_set s b h) p).mp hm)).2)

/-- Four heads (rows) stored one after another. -/
def stores4C (s : Fin 4) (b : Fin 2) (f : S4x2x256x256.Idx → Elt F .bf16) (w0 w1 w2 w3 : Vec F S1x1x256x64 .bf16) : S4x2x256x256.Idx → Elt F .bf16 :=
  (ctxM.access (rectH s b 3) : View sig .tc _ _ _).write (Elt F) ((ctxM.access (rectH s b 2) : View sig .tc _ _ _).write (Elt F)
    ((ctxM.access (rectH s b 1) : View sig .tc _ _ _).write (Elt F) ((ctxM.access (rectH s b 0) : View sig .tc _ _ _).write (Elt F) f w0 Finset.univ)
      w1 Finset.univ) w2 Finset.univ) w3 Finset.univ
def stores4S (s : Fin 4) (b : Fin 2) (f : S4x2x4x256.Idx → Elt F .f32) (w0 w1 w2 w3 : Vec F S1x1x1x256 .f32) : S4x2x4x256.Idx → Elt F .f32 :=
  (stM.access (rectR s b 3) : View sig .tc _ _ _).write (Elt F) ((stM.access (rectR s b 2) : View sig .tc _ _ _).write (Elt F)
    ((stM.access (rectR s b 1) : View sig .tc _ _ _).write (Elt F) ((stM.access (rectR s b 0) : View sig .tc _ _ _).write (Elt F) f w0 Finset.univ)
      w1 Finset.univ) w2 Finset.univ) w3 Finset.univ

omit [FloatOps F] [Named F] in
/-- After the four stores the slot holds the four blocks. -/
theorem stores4C_eq (s : Fin 4) (b : Fin 2) (f : S4x2x256x256.Idx → Elt F .bf16) (g : Fin 4 → Vec F S1x1x256x64 .bf16) :
    ∀ p ∈ setC s b, stores4C s b f (g 0) (g 1) (g 2) (g 3) p = fillC g p := by
  intro p hp
  unfold stores4C
  rw [storeH _ _ _ _ _ _ hp, storeH _ _ _ _ _ _ hp, storeH _ _ _ _ _ _ hp, storeH _ _ _ _ _ _ hp]
  have h3 : (p 3).val / 64 < 4 := by have := (p 3).isLt; simp at this; omega
  unfold fillC
  rcases (by omega : (p 3).val / 64 = 0 ∨ (p 3).val / 64 = 1 ∨ (p 3).val / 64 = 2 ∨ (p 3).val / 64 = 3) with e | e | e | e <;> simp [e] <;> rfl
omit [FloatOps F] [Named F] in
theorem stores4S_eq (s : Fin 4) (b : Fin 2) (f : S4x2x4x256.Idx → Elt F .f32) (g : Fin 4 → Vec F S1x1x1x256 .f32) :
    ∀ p ∈ setS s b, stores4S s b f (g 0) (g 1) (g 2) (g 3) p = fillS g p := by
  intro p hp
  unfold stores4S
  rw [storeR _ _ _ _ _ _ hp, storeR _ _ _ _ _ _ hp, storeR _ _ _ _ _ _ hp, storeR _ _ _ _ _ _ hp]
  have h3 : (p 2).val < 4 := (p 2).isLt
  unfold fillS
  rcases (by omega : (p 2).val = 0 ∨ (p 2).val = 1 ∨ (p 2).val = 2 ∨ (p 2).val = 3) with e | e | e | e <;> simp [e] <;> rfl

omit [FloatOps F] [Named F] in
/-- A load of a head of a slot that holds `g` reads the head's block; a load of a slot of sums of weights its four rows. -/
theorem loadH (s : Fin 4) (b : Fin 2) (h : Fin 4) (g : Fin 4 → Vec F S1x1x256x64 .bf16) :
    ctxM.view.readAt (Elt F) (rectH s b h).toLoadRect (fillC g) = g h := by
  funext x
  show fillC g ((rectH s b h).emb x) = g h x
  have e2 : (((rectH s b h).emb x) 2).val = 0 + 1 * (x 2).val := rfl
  have e3 : (((rectH s b h).emb x) 3).val = 64 * h.val + 1 * (x 3).val := rfl
  have x0 : (x 0).val < 1 := (x 0).isLt
  have x1 : (x 1).val < 1 := (x 1).isLt
  have x3 : (x 3).val < 64 := (x 3).isLt
  unfold fillC
  have hh : (⟨(((rectH s b h).emb x) 3).val / 64, by have := (((rectH s b h).emb x) 3).isLt; simp at this; omega⟩ : Fin 4) = h :=
    Fin.ext (by show (((rectH s b h).emb x) 3).val / 64 = h.val; rw [e3]; omega)
  rw [hh]
  congr 1
  funext a
  apply Fin.ext
  fin_cases a
  · show 0 = (x 0).val; omega
  · show 0 = (x 1).val; omega
  · show (((rectH s b h).emb x) 2).val = (x 2).val; rw [e2]; omega
  · show (((rectH s b h).emb x) 3).val % 64 = (x 3).val; rw [e3]; omega
omit [FloatOps F] [Named F] in
theorem loadS (s : Fin 4) (b : Fin 2) (g : Fin 4 → Vec F S1x1x1x256 .f32) :
    stM.view.readAt (Elt F) (rectS s b).toLoadRect (fillS g) = rowsS g := by
  funext x
  show fillS g ((rectS s b).emb x) = rowsS g x
  have e2 : (((rectS s b).emb x) 2).val = 0 + 1 * (x 2).val := rfl
  have e3 : (((rectS s b).emb x) 3).val = 0 + 1 * (x 3).val := rfl
  unfold fillS rowsS
  congr 1
  · congr 1; omega
  · funext a; apply Fin.ext; simp only [e3]; simp

end Cert.KernelIdealProof

end
-- ==== Proof.Contents.lean ====
/-
What each device's buffers hold during the run, as functions of the memory at launch: its staged operands, the four heads
of weighted sums and of sums of weights it computes for each batch, and its result.
-/
module

public import proofs.«01_k».proof.Proof.Slots

@[expose] public section

noncomputable section

namespace Cert.KernelIdealProof

open Cert.KernelIdeal Cert.KernelIdeal.Gen
open Idealize.ShloMosaic Idealize.ShloMosaic.TcCoe

variable {F : FTy → Type} [FloatOps F] [Named F]

/-! ## The directions -/

/-- Direction `j`'s target and sender: right (`c + 1`), left (`c + 3`), opposite (`c + 2`). -/
def tgt (j : Fin 3) (c : Dev nD) : Dev nD := ⟨(c.val + (![1, 3, 2] : Fin 3 → ℕ) j) % 4, Nat.mod_lt _ (by decide)⟩
def sdr (j : Fin 3) (c : Dev nD) : Dev nD := ⟨(c.val + (![3, 1, 2] : Fin 3 → ℕ) j) % 4, Nat.mod_lt _ (by decide)⟩
/-- The slot that direction `j` lands in. -/
def sl (j : Fin 3) : Fin 4 := j.succ
/-- The device whose sums slot `s` of device `c` holds. -/
def src (s : Fin 4) (c : Dev nD) : Dev nD := ⟨(c.val + (![0, 3, 1, 2] : Fin 4 → ℕ) s) % 4, Nat.mod_lt _ (by decide)⟩

theorem tgt_sdr (j : Fin 3) (c : Dev nD) : tgt j (sdr j c) = c := by revert j c; decide
theorem sdr_tgt (j : Fin 3) (c : Dev nD) : sdr j (tgt j c) = c := by revert j c; decide
theorem src_zero (c : Dev nD) : src 0 c = c := by revert c; decide
theorem src_sl (j : Fin 3) (c : Dev nD) : src (sl j) c = sdr j c := by revert j c; decide
def around (j : Fin 3) : Dev nD ≃ Dev nD := ⟨tgt j, sdr j, sdr_tgt j, tgt_sdr j⟩

/-! ## The values -/

/-- The mask's bias: the constant where query and key are different tokens of a device's share, else 0. -/
def bias : FVec F S256x256 .f32 := k0_pay4 (F := F) (iota .tc S256x256 32 [0] iota_S256x256_d0_w32) 64#32 k0_pay1 k0_pay2 k0_pay3

section Heads
variable (X : Vec F S2x256x512 .f32) (WQ : Vec F S512x256 .f32) (KK VV : Vec F S2x256x4x64 .f32) (WO : Vec F S256x512 .f32)

/-- The loads of one batch's keys or values. -/
theorem inbKV (b : Fin 2) : ∀ a, (![b.val, 0, 0, 0] : Fin 4 → ℕ) a + S1x256x4x64.size a ≤ S2x256x4x64.size a := by revert b; decide
abbrev rectKV (b : Fin 2) : Rect S2x256x4x64 := Rect.unit (s := S2x256x4x64) ![b.val, 0, 0, 0] S1x256x4x64.size (inbKV b)
def kvB (f : Vec F S2x256x4x64 .f32) (b : Fin 2) : Vec F S1x256x4x64 .f32 :=
  (Memref.whole cc0_stg2_0 : Memref sig .tc .vmem S2x256x4x64 .f32).view.readAt (Elt F) (rectKV b).toLoadRect f

/-- Head `h` of batch `b`'s weighted sums, as the program computes and stores it. -/
def ctxOf (b : Fin 2) (h : Fin 4) : Vec F S1x1x256x64 .bf16 :=
  let v75 := k0_pay5 WQ; let v80 := k0_pay6 v75 X; let v226 := k0_pay24 v80
  let k := kvB KK b; let v := kvB VV b
  match b, h with
  | 0, 0 => k0_pay11 bias v75 X k v
  | 0, 1 => k0_pay15 bias (k0_pay9 v) (k0_pay13 v75 X k)
  | 0, 2 => k0_pay18 bias (k0_pay7 v75 X) (k0_pay8 k) (k0_pay9 v)
  | 0, 3 => k0_pay22 bias (k0_pay8 k) (k0_pay9 v) (k0_pay20 (k0_pay7 v75 X))
  | 1, 0 => k0_pay29 bias v226 (k0_pay25 k) v
  | 1, 1 => k0_pay34 (k0_pay33 bias v226 (k0_pay25 k) v)
  | 1, 2 => k0_pay37 bias v226 (k0_pay26 (k0_pay25 k)) (k0_pay27 v)
  | 1, 3 => k0_pay42 (k0_pay41 bias v226 (k0_pay26 (k0_pay25 k)) (k0_pay27 v))

/-- Head `h` of batch `b`'s sums of weights. -/
def statOf (b : Fin 2) (h : Fin 4) : Vec F S1x1x1x256 .f32 :=
  let v75 := k0_pay5 WQ; let v80 := k0_pay6 v75 X; let v226 := k0_pay24 v80
  let k := kvB KK b
  match b, h with
  | 0, 0 => k0_pay12 bias v75 X k
  | 0, 1 => k0_pay16 bias (k0_pay13 v75 X k)
  | 0, 2 => k0_pay19 bias (k0_pay7 v75 X) (k0_pay8 k)
  | 0, 3 => k0_pay23 bias (k0_pay8 k) (k0_pay20 (k0_pay7 v75 X))
  | 1, 0 => k0_pay30 bias v226 (k0_pay25 k)
  | 1, 1 => k0_pay35 (k0_pay32 bias v226 (k0_pay25 k))
  | 1, 2 => k0_pay38 bias v226 (k0_pay26 (k0_pay25 k))
  | 1, 3 => k0_pay43 (k0_pay40 bias v226 (k0_pay26 (k0_pay25 k)))
end Heads

/-- Batch `b`'s rows of the result, from the four devices' heads `C` and sums of weights `S`, by slot. -/
def outOf (WO : Vec F S256x512 .f32) (b : Fin 2) (C : Fin 4 → Fin 4 → Vec F S1x1x256x64 .bf16) (S : Fin 4 → Vec F S1x1x4x256 .f32) : Vec F S1x256x512 .f32 :=
  match b with
  | 0 =>
    let v411 := k0_pay46 (k0_pay45 (S 0) (S 1)) (S 2) (S 3)
    k0_pay51 (k0_pay44 WO) v411 (k0_pay47 v411 (C 0 0) (C 1 0) (C 2 0) (C 3 0)) (k0_pay49 v411 (k0_pay48 (C 0 1)) (C 1 1) (C 2 1) (C 3 1))
      (k0_pay50 v411 (C 0 2) (C 1 2) (C 2 2) (C 3 2)) (C 0 3) (C 1 3) (C 2 3) (C 3 3)
  | 1 =>
    let v551 := k0_pay53 (k0_pay52 (S 0) (S 1)) (S 2) (S 3)
    k0_pay57 (k0_pay44 WO) v551 (k0_pay54 v551 (C 0 0) (C 1 0) (C 2 0) (C 3 0)) (k0_pay55 v551 (C 0 1) (C 1 1) (C 2 1) (C 3 1))
      (k0_pay56 (C 0 2) (C 1 2) (C 2 2) (C 3 2)) (C 0 3) (C 1 3) (C 2 3) (C 3 3)

theorem inbO (b : Fin 2) : ∀ a, (![b.val, 0, 0] : Fin 3 → ℕ) a + S1x256x512.size a ≤ S2x256x512.size a := by revert b; decide
/-- Batch `b`'s rows of the result's buffer. -/
abbrev rectO (b : Fin 2) : Rect S2x256x512 := Rect.unit (s := S2x256x512) ![b.val, 0, 0] S1x256x512.size (inbO b)
abbrev oM : Memref sig .tc .vmem S2x256x512 .f32 := Memref.whole cc0_stg5_0

/-- Contents of the result's buffer whose batch `b` is `g b`. -/
def fillO (g : Fin 2 → Vec F S1x256x512 .f32) : Vec F S2x256x512 .f32 := fun p =>
  g ⟨(p 0).val, (p 0).isLt⟩ (fun a => ⟨(![0, (p 1).val, (p 2).val] : Fin 3 → ℕ) a, by
    have := (p 1).isLt; have := (p 2).isLt; simp at *; fin_cases a <;> simp <;> omega⟩)

omit [FloatOps F] [Named F] in
/-- Batch 0's rows stored, then batch 1's: the buffer holds both, whatever it held. -/
theorem stores2O (f : Vec F S2x256x512 .f32) (g : Fin 2 → Vec F S1x256x512 .f32) :
    (oM.access (rectO 1) : View sig .tc _ _ _).write (Elt F) ((oM.access (rectO 0) : View sig .tc _ _ _).write (Elt F) f (g 0) Finset.univ) (g 1) Finset.univ
      = fillO g := by
  have hset (b : Fin 2) : (oM.access (rectO b) : View sig .tc _ _ _).set = (rectO b).set := by
    show ((View.whole cc0_stg5_0).slice (rectO b)).set = _
    rw [View.set_slice]; exact Finset.map_refl
  have hmem (b : Fin 2) (p : S2x256x512.Idx) : p ∈ (oM.access (rectO b) : View sig .tc _ _ _).set ↔ (p 0).val = b.val := by
    refine ((Finset.ext_iff.mp (hset b) p)).trans ?_
    rw [Rect.mem_set_unit]
    constructor
    · intro h; have := h 0; simp at this; omega
    · intro h a
      have ha := (p a).isLt
      fin_cases a <;> simp at * <;> omega
  have hw (b : Fin 2) (f' : Vec F S2x256x512 .f32) (w : Vec F S1x256x512 .f32) (p : S2x256x512.Idx) (hp : (p 0).val = b.val) :
      (oM.access (rectO b) : View sig .tc _ _ _).write (Elt F) f' w Finset.univ p = fillO (fun _ => w) p := by
    obtain ⟨x, -, rfl⟩ := Finset.mem_map.mp ((hmem b p).mpr hp)
    rw [View.write_emb_of_mem _ _ (Finset.mem_univ x)]
    unfold fillO
    refine congrArg w (funext fun a => Fin.ext ?_)
    have e1 : ((((oM.access (rectO b) : View sig .tc _ _ _).emb x) 1).val) = 0 + 1 * (x 1).val := rfl
    have e2 : ((((oM.access (rectO b) : View sig .tc _ _ _).emb x) 2).val) = 0 + 1 * (x 2).val := rfl
    have x0 : (x 0).val < 1 := (x 0).isLt
    fin_cases a
    · show (x 0).val = 0; omega
    · show (x 1).val = _; simp only [e1]; simp
    · show (x 2).val = _; simp only [e2]; simp
  funext p
  have h0 : (p 0).val < 2 := (p 0).isLt
  rcases (by omega : (p 0).val = 1 ∨ (p 0).val = 0) with e | e
  · rw [hw 1 _ _ p e]; unfold fillO; simp [e]
  · have hn : p ∉ (oM.access (rectO 1) : View sig .tc _ _ _).setOn Finset.univ := fun h => by
      have := (hmem 1 p).mp h; rw [e] at this; exact absurd this (by decide)
    rw [View.write_of_not_mem _ _ _ hn, hw 0 _ _ p e]; unfold fillO; simp [e]

/-! ## By device, from the memory at launch -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s staged operands. -/
def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def kstg (c : Dev nD) : (cc0_stg2_0 : Ref sig .tc).ty.Contents (Elt F) :=
  (win0_2.blk (0 : Fin 1)).view.read (Elt F) ((s₀ m ρ).mem ((c : Thread nD τ).loc main_arg2))
def vstg (c : Dev nD) : (cc0_stg3_0 : Ref sig .tc).ty.Contents (Elt F) :=
  (win0_3.blk (0 : Fin 1)).view.read (Elt F) ((s₀ m ρ).mem ((c : Thread nD τ).loc main_arg3))
def wostg (c : Dev nD) : (cc0_stg4_0 : Ref sig .tc).ty.Contents (Elt F) :=
  (win0_4.blk (0 : Fin 1)).view.read (Elt F) ((s₀ m ρ).mem ((c : Thread nD τ).loc main_arg4))

/-- Device `c`'s heads and sums of weights; the contents of a slot that holds them; its result. -/
def ctxHead (c : Dev nD) (b : Fin 2) (h : Fin 4) : Vec F S1x1x256x64 .bf16 := ctxOf (xstg m ρ c) (wqstg m ρ c) (kstg m ρ c) (vstg m ρ c) b h
def statHead (c : Dev nD) (b : Fin 2) (h : Fin 4) : Vec F S1x1x1x256 .f32 := statOf (xstg m ρ c) (wqstg m ρ c) (kstg m ρ c) b h
def ctxBuf (c : Dev nD) (b : Fin 2) : Buf (Elt F) ((c : Thread nD τ).loc cc0_scratch0) := fillC (ctxHead m ρ c b)
def statBuf (c : Dev nD) (b : Fin 2) : Buf (Elt F) ((c : Thread nD τ).loc cc0_scratch1) := fillS (statHead m ρ c b)
def outB (c : Dev nD) (b : Fin 2) : Vec F S1x256x512 .f32 :=
  outOf (wostg m ρ c) b (fun s h => ctxHead m ρ (src s c) b h) (fun s => rowsS (statHead m ρ (src s c) b))
def outAt (c : Dev nD) : (cc0_stg5_0 : Ref sig .tc).ty.Contents (Elt F) := fillO (outB m ρ c)

end Cert.KernelIdealProof

end
-- ==== Proof.Protocol.lean ====
/-
The protocol between the devices: the barrier, on which each device hands every other one the slots that it is going to
write, and the twelve transfers of a device (two arrays, two batches, three directions), each with a send and a receive
semaphore. This module states the schedule of the semaphores' one round, what each device owes, and the levels.
-/
module

public import proofs.«01_k».proof.Proof.Contents

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's copy and the protocol's, with duties `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The transfers and the semaphores -/

/-- A device's twelve transfers: the weighted sums' and the sums of weights' of batch `b` in direction `j`. -/
def ixC (b : Fin 2) (j : Fin 3) : Fin 12 := ⟨3 * b.val + j.val, by omega⟩
def ixS (b : Fin 2) (j : Fin 3) : Fin 12 := ⟨6 + 3 * b.val + j.val, by omega⟩
def isC (i : Fin 12) : Bool := decide (i.val < 6)
def bOf (i : Fin 12) : Fin 2 := ⟨i.val / 3 % 2, Nat.mod_lt _ (by decide)⟩
def jOf (i : Fin 12) : Fin 3 := ⟨i.val % 3, Nat.mod_lt _ (by decide)⟩
theorem isC_ixC (b : Fin 2) (j : Fin 3) : isC (ixC b j) = true := by revert b j; decide
theorem isC_ixS (b : Fin 2) (j : Fin 3) : isC (ixS b j) = false := by revert b j; decide
theorem bOf_ixC (b : Fin 2) (j : Fin 3) : bOf (ixC b j) = b := by revert b j; decide
theorem bOf_ixS (b : Fin 2) (j : Fin 3) : bOf (ixS b j) = b := by revert b j; decide
theorem jOf_ixC (b : Fin 2) (j : Fin 3) : jOf (ixC b j) = j := by revert b j; decide
theorem jOf_ixS (b : Fin 2) (j : Fin 3) : jOf (ixS b j) = j := by revert b j; decide

/-- The runtime's barrier semaphore, and transfer `i`'s send (`r = 0`) and receive (`r = 1`) semaphores. -/
abbrev barS : Sem sig := (SemArray.scalar (sig.barrier 0 rfl) : Sems sig S_).sem
def dsem (i : Fin 12) (r : Fin 2) : DmaSem sig := (⟨6 + 2 * i.val + r.val, by omega⟩ : Fin 30)
/-- Which transfer a semaphore is of, and which of its two. -/
def ixOf (q : DmaSem sig) : Fin 12 := ⟨((q : Fin 30).val - 6) / 2 % 12, Nat.mod_lt _ (by decide)⟩
def rOf (q : DmaSem sig) : Fin 2 := ⟨((q : Fin 30).val - 6) % 2, Nat.mod_lt _ (by decide)⟩
theorem ixOf_dsem (i : Fin 12) (r : Fin 2) : ixOf (dsem i r) = i := by revert i r; decide
theorem rOf_dsem (i : Fin 12) (r : Fin 2) : rOf (dsem i r) = r := by revert i r; decide

abbrev barCell (c : Dev nD) : GSem nD τ sig := ((c : Thread nD τ), .reg barS)
abbrev dCell (c : Dev nD) (i : Fin 12) (r : Fin 2) : GSem nD τ sig := ((c : Thread nD τ), .dma (dsem i r))

/-- The cells, indexed: a device's barrier, and its transfers' semaphores. -/
abbrev CK : Type := Unit ⊕ (Fin 12 × Fin 2)
abbrev csem : CK → SemLoc sig := fun | .inl _ => .reg barS | .inr k => .dma (dsem k.1 k.2)
abbrev kcell (ck : Dev nD × CK) : GSem nD τ sig := ((ck.1 : Thread nD τ), csem ck.2)

/-- The credits that a transfer of a slot pays. -/
abbrev NC : ℕ := (slotC 0 0).view.dmaCredit
abbrev NS : ℕ := (slotS 0 0).view.dmaCredit
theorem NC_pos : 0 < NC := View.dmaCredit_pos _ (by decide)
theorem NS_pos : 0 < NS := View.dmaCredit_pos _ (by decide)
def amt (i : Fin 12) : ℕ := if isC i then NC else NS
theorem amt_pos (i : Fin 12) : 0 < amt i := by unfold amt; split; exacts [NC_pos, NS_pos]
theorem amt_ixC (b : Fin 2) (j : Fin 3) : amt (ixC b j) = NC := by unfold amt; rw [isC_ixC]; rfl
theorem amt_ixS (b : Fin 2) (j : Fin 3) : amt (ixS b j) = NS := by unfold amt; rw [isC_ixS]; rfl

/-! ## The slots as assertions -/

/-- A slot of device `c`, at share `q`, holding `f`. -/
def cPts (c : Dev nD) (s : Fin 4) (b : Fin 2) (q : PosShare TreeShare) (f : Buf (Elt F) ((c : Thread nD τ).loc cc0_scratch0)) : sProp 𝕄 :=
  (c : Thread nD τ).loc cc0_scratch0 ↦[setC s b]{q} f
def sPts (c : Dev nD) (s : Fin 4) (b : Fin 2) (q : PosShare TreeShare) (f : Buf (Elt F) ((c : Thread nD τ).loc cc0_scratch1)) : sProp 𝕄 :=
  (c : Thread nD τ).loc cc0_scratch1 ↦[setS s b]{q} f

omit [FloatOps F] [Named F] in
instance cPts_storable (c : Dev nD) (s b q f) : BI.Storable (upEmb : UEmb _ 𝕄) (cPts (F := F) c s b q f) := by unfold cPts; infer_instance
omit [FloatOps F] [Named F] in
instance sPts_storable (c : Dev nD) (s b q f) : BI.Storable (upEmb : UEmb _ 𝕄) (sPts (F := F) c s b q f) := by unfold sPts; infer_instance

/-- The shares of an own slot: one per direction, for the transfer's read, and one that stays for the loads. -/
def shr (j : Fin 3) : PosShare TreeShare := match j with
  | 0 => fullShare.left.left | 1 => fullShare.left.right | 2 => fullShare.right.left
def shK : PosShare TreeShare := fullShare.right.right

omit [FloatOps F] [Named F] in
/-- A whole slot is its four shares. -/
theorem cPts_shares (c : Dev nD) (s b f) :
    cPts (F := F) c s b fullShare f ⊣⊢ iprop((cPts c s b (shr 0) f ∗ cPts c s b (shr 1) f) ∗ (cPts c s b (shr 2) f ∗ cPts c s b shK f)) := by
  have h := pointsTo_share (ℓ := (c : Thread nD τ).loc cc0_scratch0) (I := setC s b) (f := f) (Ix := Unit) (Name := ℕ) (U := UU) (Lvl := ℕ) (PosShare.mem_left_op_right fullShare)
  have hl := pointsTo_share (ℓ := (c : Thread nD τ).loc cc0_scratch0) (I := setC s b) (f := f) (Ix := Unit) (Name := ℕ) (U := UU) (Lvl := ℕ) (PosShare.mem_left_op_right fullShare.left)
  have hr := pointsTo_share (ℓ := (c : Thread nD τ).loc cc0_scratch0) (I := setC s b) (f := f) (Ix := Unit) (Name := ℕ) (U := UU) (Lvl := ℕ) (PosShare.mem_left_op_right fullShare.right)
  exact ⟨h.1.trans (BIClass.sep_mono hl.1 hr.1), (BIClass.sep_mono hl.2 hr.2).trans h.2⟩
omit [FloatOps F] [Named F] in
theorem sPts_shares (c : Dev nD) (s b f) :
    sPts (F := F) c s b fullShare f ⊣⊢ iprop((sPts c s b (shr 0) f ∗ sPts c s b (shr 1) f) ∗ (sPts c s b (shr 2) f ∗ sPts c s b shK f)) := by
  have h := pointsTo_share (ℓ := (c : Thread nD τ).loc cc0_scratch1) (I := setS s b) (f := f) (Ix := Unit) (Name := ℕ) (U := UU) (Lvl := ℕ) (PosShare.mem_left_op_right fullShare)
  have hl := pointsTo_share (ℓ := (c : Thread nD τ).loc cc0_scratch1) (I := setS s b) (f := f) (Ix := Unit) (Name := ℕ) (U := UU) (Lvl := ℕ) (PosShare.mem_left_op_right fullShare.left)
  have hr := pointsTo_share (ℓ := (c : Thread nD τ).loc cc0_scratch1) (I := setS s b) (f := f) (Ix := Unit) (Name := ℕ) (U := UU) (Lvl := ℕ) (PosShare.mem_left_op_right fullShare.right)
  exact ⟨h.1.trans (BIClass.sep_mono hl.1 hr.1), (BIClass.sep_mono hl.2 hr.2).trans h.2⟩

/-! ## The schedule -/

/-- What device `c` gives up of batch `b` for direction `j`: the two slots that the direction lands in. -/
def landing (c : Dev nD) (j : Fin 3) (b : Fin 2) : sProp 𝕄 :=
  iprop((∃ f, cPts c (sl j) b fullShare f) ∗ ∃ f, sPts c (sl j) b fullShare f)
/-- What the signal of `c`'s target in direction `j` hands `c`. -/
def barPay (c : Dev nD) (j : Fin 3) : sProp 𝕄 := iprop(landing (tgt j c) j 0 ∗ landing (tgt j c) j 1)
/-- What a transfer's send semaphore returns (the share of the slot it read), and what its receive semaphore hands over
    (the slot it wrote, holding the sender's). -/
def sendPay (c : Dev nD) (i : Fin 12) : sProp 𝕄 :=
  if isC i then cPts c 0 (bOf i) (shr (jOf i)) (ctxBuf m ρ c (bOf i)) else sPts c 0 (bOf i) (shr (jOf i)) (statBuf m ρ c (bOf i))
def recvPay (c : Dev nD) (i : Fin 12) : sProp 𝕄 :=
  if isC i then cPts c (sl (jOf i)) (bOf i) fullShare (ctxBuf m ρ (sdr (jOf i) c) (bOf i))
  else sPts c (sl (jOf i)) (bOf i) fullShare (statBuf m ρ (sdr (jOf i) c) (bOf i))
def dmaPay (c : Dev nD) (i : Fin 12) (r : Fin 2) : sProp 𝕄 := if r = 0 then sendPay m ρ c i else recvPay m ρ c i

/-- One round, round 0: a barrier cell has three duties of one unit, duty `j` paid by the target in direction `j`; a
    transfer's cell the duty `0` of the slot's credit. -/
def sched : Rounds.Schedule (GSem nD τ sig) (Fin 3) 𝕄 where
  duties g r := if r = 0 then (match g.2 with | .reg _ => Finset.univ | .dma _ => {0}) else ∅
  unitless _ := False
  amount g _ _ := match g.2 with | .reg _ => 1 | .dma q => amt (ixOf q)
  payload g _ d := match g.2 with | .reg _ => barPay g.1.1 d | .dma q => dmaPay m ρ g.1.1 (ixOf q) (rOf q)
  amount_pos g _ _ _ := by split; exacts [Nat.one_pos, amt_pos _]

instance sched_payload_storable (g : GSem nD τ sig) (r : ℕ) (d : Fin 3) :
    BI.Storable (upEmb : UEmb _ 𝕄) ((sched (F := F) m ρ).payload g r d) := by
  show BI.Storable upEmb (match g.2 with | .reg _ => barPay g.1.1 d | .dma q => dmaPay m ρ g.1.1 (ixOf q) (rOf q))
  unfold barPay dmaPay landing sendPay recvPay
  (repeat' split) <;> infer_instance

section Sched
variable (c : Dev nD) (i : Fin 12) (r : Fin 2)

theorem duties_bar : (sched (F := F) m ρ).duties (barCell c) 0 = Finset.univ := rfl
theorem duties_dma : (sched (F := F) m ρ).duties (dCell c i r) 0 = {0} := rfl
theorem duties_later (g : GSem nD τ sig) : ∀ r, 1 ≤ r → (sched (F := F) m ρ).duties g r = ∅ := fun r hr => if_neg (by omega)
theorem amount_bar (d : Fin 3) : (sched (F := F) m ρ).amount (barCell c) 0 d = 1 := rfl
theorem amount_dma (d : Fin 3) : (sched (F := F) m ρ).amount (dCell c i r) 0 d = amt i := by
  show amt (ixOf (dsem i r)) = amt i; rw [ixOf_dsem]
theorem expect_bar : (sched (F := F) m ρ).expect (barCell c) 0 = 3 := rfl
theorem expect_dma : (sched (F := F) m ρ).expect (dCell c i r) 0 = amt i := by
  unfold Schedule.expect Schedule.amountOf; rw [duties_dma, Finset.sum_singleton, amount_dma]
theorem payload_bar (d : Fin 3) : (sched (F := F) m ρ).payload (barCell c) 0 d = barPay c d := rfl
theorem payload_dma (d : Fin 3) : (sched (F := F) m ρ).payload (dCell c i r) 0 d = dmaPay m ρ c i r := by
  show dmaPay m ρ c (ixOf (dsem i r)) (rOf (dsem i r)) = _; rw [ixOf_dsem, rOf_dsem]
/-- The rest of the barrier's round, no duty taken: the three payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_univ_eq_bigSepL [0, 1, 2] (by decide) (by decide)]; rfl
theorem rest_dma : bigSep ((sched (F := F) m ρ).duties (dCell c i r) 0 \ ∅) (fun d => (sched (F := F) m ρ).payload (dCell c i r) 0 d) = dmaPay m ρ c i r := by
  rw [Finset.sdiff_empty, duties_dma, bigSep_singleton, payload_dma]
end Sched

/-! ## What each device owes; the levels -/

/-- The sum of a list of debts, its head peeled first. -/
def owedSum : List (GSem nD τ sig × ℕ) → CellTallies nD τ sig Unit
  | [] => 0
  | x :: l => owedSum l + tallyAt x.1 () x.2

/-- The transfers in the order in which the program starts them. -/
def sendOrder : List (Fin 12) :=
  [ixS 0 0, ixC 0 0, ixS 0 1, ixC 0 1, ixS 0 2, ixC 0 2, ixS 1 0, ixC 1 0, ixS 1 1, ixC 1 1, ixS 1 2, ixC 1 2]
/-- The debt of a transfer: its credit on the target's receive cell. -/
def debt (c : Dev nD) (i : Fin 12) : GSem nD τ sig × ℕ := (dCell (tgt (jOf i) c) i 1, amt i)
/-- What device `c` owes before transfer number `n`. -/
def owedFrom (c : Dev nD) (n : ℕ) : CellTallies nD τ sig Unit := owedSum ((sendOrder.map (debt c)).drop n)
/-- At launch also one unit on each other device's barrier. -/
def owedBar (c : Dev nD) (n : ℕ) : CellTallies nD τ sig Unit :=
  owedSum ((([0, 1, 2] : List (Fin 3)).map fun j => (barCell (sdr j c), 1)).drop n ++ sendOrder.map (debt c))

theorem owedSum_pos {l : List (GSem nD τ sig × ℕ)} {g : GSem nD τ sig} {u : Unit} (h : 0 < owedSum l g u) : ∃ x ∈ l, x.1 = g := by
  induction l with
  | nil => exact absurd h (Nat.lt_irrefl 0)
  | cons x l ih =>
    unfold owedSum at h
    rw [Pi.add_apply, Finsupp.add_apply, tallyAt_apply] at h
    by_cases hx : x.1 = g
    · exact ⟨x, List.mem_cons_self, hx⟩
    · rw [if_neg (fun h' => hx h'.1.symm), Nat.add_zero] at h
      obtain ⟨y, hy, e⟩ := ih h
      exact ⟨y, List.mem_cons_of_mem _ hy, e⟩

theorem owedSum_apply (l : List (GSem nD τ sig × ℕ)) (g : GSem nD τ sig) :
    owedSum l g () = (l.map fun x => if x.1 = g then x.2 else 0).sum := by
  induction l with
  | nil => rfl
  | cons x l ih =>
    unfold owedSum
    rw [Pi.add_apply, Finsupp.add_apply, tallyAt_apply, ih, List.map_cons, List.sum_cons, Nat.add_comm]
    congr 1
    by_cases hx : x.1 = g
    · rw [if_pos ⟨hx.symm, rfl⟩, if_pos hx]
    · rw [if_neg (fun h' => hx h'.1.symm), if_neg hx]

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 6 ≤ (q : Fin 30).val ∧ (q : Fin 30).val % 2 = 1 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 12) : lv (dCell c i 1) () = 2 := by
  show (if 6 ≤ 6 + 2 * i.val + 1 ∧ (6 + 2 * i.val + 1) % 2 = 1 then 2 else 0) = 2
  exact if_pos ⟨by omega, by omega⟩

omit [FloatOps F] [Named F] in
/-- A wait on a cell is allowed while only cells of higher levels are owed. -/
theorem mayWait_below (c : Dev nD) (sm : SemLoc sig) (l : List (GSem nD τ sig × ℕ)) (n : ℕ) (hn : lv ((c : Thread nD τ), sm) () ≤ n)
    (hl : ∀ x ∈ l, x.1.1.2 = .tc ∧ n < lv x.1 ()) : (levAts L lv : sProp 𝕄) ⊢ MayWait (c : Thread nD τ) sm () (owedSum l) :=
  MayOwe.of_cut (L := L) (lev := lv) n (fun p hp => by rw [Finset.mem_singleton.mp hp, L_tc]; exact Finset.mem_singleton_self _)
    (fun g u hg => by
      obtain ⟨x, hx, rfl⟩ := owedSum_pos hg
      unfold L; rw [if_pos (hl x hx).1]; exact Finset.mem_singleton_self _)
    (fun p hp => by rw [Finset.mem_singleton.mp hp]; exact hn)
    (fun g u hg => by obtain ⟨x, hx, rfl⟩ := owedSum_pos hg; exact (hl x hx).2)

theorem debt_high (c : Dev nD) (x : GSem nD τ sig × ℕ) (h : x ∈ sendOrder.map (debt c)) : x.1.1.2 = .tc ∧ 1 < lv x.1 () := by
  obtain ⟨i, -, rfl⟩ := List.mem_map.mp h
  exact ⟨rfl, by show 1 < lv (dCell _ i 1) (); rw [lv_recv]; decide⟩

omit [FloatOps F] [Named F] in
/-- At its barrier wait a device owes receive cells only. -/
theorem mayWait_bar (c : Dev nD) : (levAts L lv : sProp 𝕄) ⊢ MayWait (c : Thread nD τ) (.reg barS) () (owedFrom c 0) :=
  mayWait_below c _ _ 1 (le_refl _) (debt_high c)

omit [FloatOps F] [Named F] in
/-- At the staging waits everything is owed, or nothing. -/
theorem mayWait_stage (c : Dev nD) (q : DmaSem sig) (hq : (q : Fin 30).val < 6) (O : CellTallies nD τ sig Unit) (hO : O = owedBar c 0 ∨ O = 0) :
    (levAts L lv : sProp 𝕄) ⊢ MayWait (c : Thread nD τ) (.dma q) () O := by
  rcases hO with rfl | rfl
  · refine mayWait_below c _ _ 0 (by show (if _ then 2 else 0) ≤ 0; rw [if_neg (fun h => by omega)]) (fun x hx => ?_)
    rcases List.mem_append.mp hx with hx | hx
    · obtain ⟨j, -, rfl⟩ := List.mem_map.mp hx
      exact ⟨rfl, Nat.one_pos⟩
    · exact ⟨(debt_high c x hx).1, by have := (debt_high c x hx).2; omega⟩
  · rw [MayWait_zero]; iintro -; iempintro

end Cert.KernelIdealProof

end
-- ==== Proof.Steps.lean ====
/-
The steps of the protocol: a signal, the barrier's wait, the start of a transfer, the wait for one — each as one rule, for
any device, transfer and continuation.
-/
module

public import proofs.«01_k».proof.Proof.Protocol

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- Every cell's invariant, at the names `K`, and that round 0 of every cell is reached. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

theorem records_bar (K : Dev nD × CK → ℕ) (c : Dev nD) :
    records m ρ K ⊢ iprop(cellInv ER (sched m ρ) (K (c, .inl ())) (barCell c) ∗ reached ER (barCell c) 0) :=
  BIClass.sep_mono (bigSep_elim (Finset.mem_univ (c, Sum.inl ()))) (bigSep_elim (Finset.mem_univ (c, Sum.inl ())))
theorem records_dma (K : Dev nD × CK → ℕ) (c : Dev nD) (i : Fin 12) (r : Fin 2) :
    records m ρ K ⊢ iprop(cellInv ER (sched m ρ) (K (c, .inr (i, r))) (dCell c i r) ∗ reached ER (dCell c i r) 0) :=
  BIClass.sep_mono (bigSep_elim (Finset.mem_univ (c, Sum.inr (i, r)))) (bigSep_elim (Finset.mem_univ (c, Sum.inr (i, r))))

/-! ## A transfer's state on its two devices -/

/-- Before the sender starts it: the position of its send semaphore, and the two duty tokens it pays with. -/
def pend (c : Dev nD) (i : Fin 12) : sProp 𝕄 :=
  iprop(atPos ER (dCell c i 0) 0 ∅ 0 ∗ dutyTok ER (dCell c i 0) 0 0 ∗ dutyTok ER (dCell (tgt (jOf i) c) i 1) 0 0)
/-- Under way: the position and credit of semaphore `r` (send on the sender, receive on the target). -/
def flight (c : Dev nD) (i : Fin 12) (r : Fin 2) : sProp 𝕄 :=
  iprop(atPos ER (dCell c i r) 0 ∅ 0 ∗ cred (tallyAt (dCell c i r) () (amt i)))
/-- Waited for: the semaphore is back at zero. -/
def shut (c : Dev nD) (i : Fin 12) (r : Fin 2) : sProp 𝕄 := semVal (dCell c i r) 0
/-- What device `c` owes, whatever it has waited for. -/
def ow (c : Dev nD) (O : CellTallies nD τ sig Unit) : sProp 𝕄 := iprop(∃ W, owes (c : Thread nD τ) O W)

section Steps

variable (K : Dev nD × CK → ℕ)

/-- The signal to the sender of direction `j`: it hands over this device's slots of the direction. -/
theorem signal_step {α : Type} {Q : α → sProp 𝕄} {k : PUnit → Prog (TpuEff nD τ sig (Elt F) Λ₀ .tc) α} (c n : Dev nD) (j : Fin 3) (hn : n = sdr j c) (O₀ O : CellTallies nD τ sig Unit) (hO : O₀ = O + tallyAt (barCell (sdr j c)) () 1)
    (a : ℕ) (ha : a = 1) :
    iprop(records m ρ K ∗ ow c O₀ ∗ dutyTok ER (barCell (sdr j c)) 0 j ∗ landing c j 0 ∗ landing c j 1)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  unfold ow
  iintro ⟨#HR, ⟨%W, HO⟩, Ht, Hl0, Hl1⟩ Hk
  ihave #Hc := (records_bar m ρ K (sdr j c)) $$ HR
  icases Hc with ⟨#Hi, #Hr⟩
  iapply (Rounds.wp_signal 𝒱₀ ER (sched m ρ) (c : Thread nD τ) none (dst := (sdr j c : Thread nD τ)) (κ := K (sdr j c, .inl ()))
      (d := j) (by rw [duties_bar]; exact Finset.mem_univ _) (amount_bar m ρ (sdr j c) j) () O hO) $$ [HO Ht Hl0 Hl1]
  · isplitr; · iexact Hi
    isplitl [HO]; · iexact HO
    isplitl [Ht]; · iexact Ht
    isplitl [Hl0 Hl1]
    · rw [payload_bar]; unfold barPay; rw [tgt_sdr]
      isplitl [Hl0] <;> iassumption
    iexact Hr
  iintro HO
  iapply Hk
  iexists W; iexact HO

/-- The wait on the barrier: every other device's slots for this one's transfers come with it, and the barrier is at zero again. -/
theorem barrier_step {α : Type} {Q : α → sProp 𝕄} {k : PUnit → Prog (TpuEff nD τ sig (Elt F) Λ₀ .tc) α} (c : Dev nD) (a : ℕ) (ha : a = 3) :
    iprop(records m ρ K ∗ ow c (owedFrom c 0) ∗ levAts L lv ∗ atPos ER (barCell c) 0 ∅ 0 ∗ cred (tallyAt (barCell c) () 3))
      ⊢ iprop((iprop(ow c (owedFrom c 0) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold ow
  iintro ⟨#HR, ⟨%W, HO⟩, #Hlev, Hat, Hc⟩ Hk
  ihave #Hr := (records_bar m ρ K c) $$ HR
  icases Hr with ⟨#Hi, -⟩
  iapply (Rounds.wp_wait_rest_token 𝒱₀ ER (sched m ρ) (c : Thread nD τ) none (κ := K (c, .inl ()))
      (wpE_semWait_eq 𝒱₀ (c : Thread nD τ) none Set.univ) (Set.mem_univ _) () (O := owedFrom c 0) (W := W) (R := 0) (m := 0) (T := ∅)
      (by rw [expect_bar])) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iexact Hi
    iexact Hat
  iapply Hk
  isplitl [HO]; · iexists _; iexact HO
  isplitl [Hz]; · iexact Hz
  iexact Hp

/-- The wait for a transfer: its payload, and its semaphore at zero. -/
theorem wait_step {α : Type} {Q : α → sProp 𝕄} {k : PUnit → Prog (TpuEff nD τ sig (Elt F) Λ₀ .tc) α} (c : Dev nD) (i : Fin 12) (r : Fin 2) (q : DmaSem sig) (hq : q = dsem i r) {sp sp' : CoreSpace} {s : Shape} {e : EltTy}
    {src : Memref sig .tc sp s e} {dst : Memref sig .tc sp' s e} {hs : src.view.WordExact} {hd : dst.view.WordExact}
    (ha : dst.view.dmaCredit = amt i) :
    iprop(records m ρ K ∗ ow c 0 ∗ flight c i r)
      ⊢ iprop((iprop(ow c 0 ∗ shut c i r ∗ dmaPay m ρ c i r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  unfold ow flight shut
  iintro ⟨#HR, ⟨%W, HO⟩, Hat, Hc⟩ Hk
  ihave #Hr := (records_dma m ρ K c i r) $$ HR
  icases Hr with ⟨#Hi, -⟩
  iapply (Rounds.wp_wait_rest_token 𝒱₀ ER (sched m ρ) (c : Thread nD τ) none (κ := K (c, .inr (i, r)))
      (wpE_waitDma2_eq 𝒱₀ (c : Thread nD τ) none Set.univ) (Set.mem_univ _) () (O := 0) (W := W) (R := 0) (m := 0) (T := ∅)
      (by rw [expect_dma, Nat.zero_add]; exact ha)) $$ [Hc HO Hat]
  · isplitr; · iexact Hi
    isplitl [Hc]; · rw [ha]; iexact Hc
    isplitl [HO]; · iexact HO
    isplitr; · rw [MayWait_zero]; iempintro
    iexact Hat
  iintro ⟨HO, Hat, -, Hpay⟩
  ihave Hp := (Entails.of_eq (rest_dma m ρ c i r)) $$ Hpay
  imod (Rounds.cell_close ER (sched m ρ) (Set.mem_univ (K (c, .inr (i, r)))) (fun h => h) (R := 0 + 1) (duties_later m ρ (dCell c i r))) $$ [Hat] with Hz
  · isplitr; · iexact Hi
    iexact Hat
  iapply Hk
  isplitl [HO]; · iexists _; iexact HO
  isplitl [Hz]; · iexact Hz
  iexact Hp

/-- The start of the transfer of batch `b`'s weighted sums in direction `j`. -/
theorem sendC_step {α : Type} {Q : α → sProp 𝕄} {k : PUnit → Prog (TpuEff nD τ sig (Elt F) Λ₀ .tc) α} (c n : Dev nD) (b : Fin 2) (j : Fin 3) (hn : n = tgt j c) (sS sR : DmaSem sig) (hS : sS = dsem (ixC b j) 0) (hR : sR = dsem (ixC b j) 1)
    (O₀ O : CellTallies nD τ sig Unit) (hO : O₀ = O + tallyAt (dCell (tgt j c) (ixC b j) 1) () NC)
    {hsc : (slotC (sl j) b : Memref sig (Dev.tc n : Thread nD τ).2.kind .vmem S256x256 .bf16).view.ref.isScScratch = false}
    {hsrc : (slotC 0 b).view.WordExact} {hdst : (slotC (sl j) b).view.WordExact}
    {hsem : DmaTarget.Typed .vmem (.dma sR) (.remote (Dev.tc n : Thread nD τ) (slotC (sl j) b) (.dma sS) hsc)} :
    iprop(records m ρ K ∗ ow c O₀ ∗ pend c (ixC b j) ∗ cPts c 0 b (shr j) (ctxBuf m ρ c b) ∗ (∃ f, cPts (tgt j c) (sl j) b fullShare f))
      ⊢ iprop((iprop(ow c O ∗ flight c (ixC b j) 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotC 0 b) (.remote (Dev.tc n : Thread nD τ) (slotC (sl j) b) (.dma sS) hsc) (.dma sR) hsrc hdst hsem) k) Q) := by
  subst hn; subst hS; subst hR
  unfold ow pend flight cPts
  rw [jOf_ixC, amt_ixC]
  iintro ⟨#HR, ⟨%W, HO⟩, ⟨Hat, Ht, Ht'⟩, Hs, ⟨%f, Hd⟩⟩ Hk
  ihave #H1 := (records_dma m ρ K c (ixC b j) 0) $$ HR
  icases H1 with ⟨#Hi, #Hr⟩
  ihave #H2 := (records_dma m ρ K (tgt j c) (ixC b j) 1) $$ HR
  icases H2 with ⟨#Hi', #Hr'⟩
  iapply (Rounds.wp_send_pointsTo 𝒱₀ ER (sched m ρ) (c : Thread nD τ) none (κ₁ := K (c, .inr (ixC b j, 0))) (κ₂ := K (tgt j c, .inr (ixC b j, 1)))
    (c' := (tgt j c : Thread nD τ)) (src := slotC 0 b) (dst := slotC (sl j) b) (q := shr j) (fs := ctxBuf m ρ c b)
    (r₁ := 0) (r₂ := 0) (d₁ := 0) (d₂ := 0) (fd := f) (W := W)
    (by rw [duties_dma]; exact Finset.mem_singleton_self _) (by rw [duties_dma]; exact Finset.mem_singleton_self _)
    () () NC rfl ((amount_dma m ρ c _ _ _).trans (amt_ixC b j)) ((amount_dma m ρ (tgt j c) _ _ _).trans (amt_ixC b j)) O hO
    (by rw [payload_dma, slotC_set]; unfold dmaPay sendPay cPts; rw [if_pos rfl, isC_ixC, if_pos rfl, bOf_ixC, jOf_ixC])
    (by
      rw [payload_dma, slotC_set]; unfold dmaPay recvPay cPts
      rw [if_neg (by decide), isC_ixC, if_pos rfl, bOf_ixC, jOf_ixC, sdr_tgt]
      exact Entails.of_eq (pointsTo_congr (landedC (ctxHead m ρ c b) (sl j) b f)))) $$ [Hs Hd HO Ht Ht']
  · isplitr; · iexact Hi
    isplitr; · iexact Hi'
    isplitl [Hs]; · rw [slotC_set]; iexact Hs
    isplitl [Hd]; · rw [slotC_set]; iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  isplitl [Hat]; · iexact Hat
  iexact Hc

/-- The start of the transfer of batch `b`'s sums of weights in direction `j`. -/
theorem sendS_step {α : Type} {Q : α → sProp 𝕄} {k : PUnit → Prog (TpuEff nD τ sig (Elt F) Λ₀ .tc) α} (c n : Dev nD) (b : Fin 2) (j : Fin 3) (hn : n = tgt j c) (sS sR : DmaSem sig) (hS : sS = dsem (ixS b j) 0) (hR : sR = dsem (ixS b j) 1)
    (O₀ O : CellTallies nD τ sig Unit) (hO : O₀ = O + tallyAt (dCell (tgt j c) (ixS b j) 1) () NS)
    {hsc : (slotS (sl j) b : Memref sig (Dev.tc n : Thread nD τ).2.kind .vmem S4x256 .f32).view.ref.isScScratch = false}
    {hsrc : (slotS 0 b).view.WordExact} {hdst : (slotS (sl j) b).view.WordExact}
    {hsem : DmaTarget.Typed .vmem (.dma sR) (.remote (Dev.tc n : Thread nD τ) (slotS (sl j) b) (.dma sS) hsc)} :
    iprop(records m ρ K ∗ ow c O₀ ∗ pend c (ixS b j) ∗ sPts c 0 b (shr j) (statBuf m ρ c b) ∗ (∃ f, sPts (tgt j c) (sl j) b fullShare f))
      ⊢ iprop((iprop(ow c O ∗ flight c (ixS b j) 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotS 0 b) (.remote (Dev.tc n : Thread nD τ) (slotS (sl j) b) (.dma sS) hsc) (.dma sR) hsrc hdst hsem) k) Q) := by
  subst hn; subst hS; subst hR
  unfold ow pend flight sPts
  rw [jOf_ixS, amt_ixS]
  iintro ⟨#HR, ⟨%W, HO⟩, ⟨Hat, Ht, Ht'⟩, Hs, ⟨%f, Hd⟩⟩ Hk
  ihave #H1 := (records_dma m ρ K c (ixS b j) 0) $$ HR
  icases H1 with ⟨#Hi, #Hr⟩
  ihave #H2 := (records_dma m ρ K (tgt j c) (ixS b j) 1) $$ HR
  icases H2 with ⟨#Hi', #Hr'⟩
  iapply (Rounds.wp_send_pointsTo 𝒱₀ ER (sched m ρ) (c : Thread nD τ) none (κ₁ := K (c, .inr (ixS b j, 0))) (κ₂ := K (tgt j c, .inr (ixS b j, 1)))
    (c' := (tgt j c : Thread nD τ)) (src := slotS 0 b) (dst := slotS (sl j) b) (q := shr j) (fs := statBuf m ρ c b)
    (r₁ := 0) (r₂ := 0) (d₁ := 0) (d₂ := 0) (fd := f) (W := W)
    (by rw [duties_dma]; exact Finset.mem_singleton_self _) (by rw [duties_dma]; exact Finset.mem_singleton_self _)
    () () NS rfl ((amount_dma m ρ c _ _ _).trans (amt_ixS b j)) ((amount_dma m ρ (tgt j c) _ _ _).trans (amt_ixS b j)) O hO
    (by rw [payload_dma, slotS_set]; unfold dmaPay sendPay sPts; rw [if_pos rfl, isC_ixS, if_neg Bool.false_ne_true, bOf_ixS, jOf_ixS])
    (by
      rw [payload_dma, slotS_set]; unfold dmaPay recvPay sPts
      rw [if_neg (by decide), isC_ixS, if_neg Bool.false_ne_true, bOf_ixS, jOf_ixS, sdr_tgt]
      exact Entails.of_eq (pointsTo_congr (landedS (statHead m ρ c b) (sl j) b f)))) $$ [Hs Hd HO Ht Ht']
  · isplitr; · iexact Hi
    isplitr; · iexact Hi'
    isplitl [Hs]; · rw [slotS_set]; iexact Hs
    isplitl [Hd]; · rw [slotS_set]; iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  isplitl [Hat]; · iexact Hat
  iexact Hc

end Steps

end Cert.KernelIdealProof

end
-- ==== Proof.Access.lean ====
/-
Loads and stores of the buffers at slots, heads and rows, each as one rule for any device and continuation.
-/
module

public import proofs.«01_k».proof.Proof.Steps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Mem

variable (c : Dev nD)

/-- A whole operand's or result's staging buffer of device `c`. -/
abbrev stg (b : Ref sig .tc) (X : b.ty.Contents (Elt F)) : sProp 𝕄 := ((c : Thread nD τ).loc b) ↦{fullShare} X

/-- A load of a head of a slot that holds `g`. -/
theorem loadC_step {α : Type} {Q : α → sProp 𝕄} (s : Fin 4) (b : Fin 2) (h : Fin 4) (q : PosShare TreeShare) (g : Fin 4 → Vec F S1x1x256x64 .bf16)
    {hl : ctxM.view.LoadsAt (rectH s b h).toLoadRect} {k : Vec F S1x1x256x64 .bf16 → Prog (TpuEff nD τ sig (Elt F) Λ₀ .tc) α} :
    cPts c s b q (fillC g) ⊢ iprop((cPts c s b q (fillC g) -∗ wp frame (wpE (defs₀ (F := F)) 𝒱₀ (c : Thread nD τ) none) Set.univ (k (g h)) Q)
      -∗ wp frame (wpE (defs₀ (F := F)) 𝒱₀ (c : Thread nD τ) none) Set.univ (.op (.load ctxM (rectH s b h).toLoadRect hl) k) Q) := by
  unfold cPts
  iintro H Hk
  iapply (wp_load 𝒱₀ (c : Thread nD τ) none Set.univ (m := ctxM) (S := setC s b) (loadH_sub s b h)) $$ H; iintro H
  rw [loadH]
  iapply Hk; iexact H

/-- A load of a slot of sums of weights that holds `g`. -/
theorem loadS_step {α : Type} {Q : α → sProp 𝕄} (s : Fin 4) (b : Fin 2) (q : PosShare TreeShare) (g : Fin 4 → Vec F S1x1x1x256 .f32)
    {hl : stM.view.LoadsAt (rectS s b).toLoadRect} {k : Vec F S1x1x4x256 .f32 → Prog (TpuEff nD τ sig (Elt F) Λ₀ .tc) α} :
    sPts c s b q (fillS g) ⊢ iprop((sPts c s b q (fillS g) -∗ wp frame (wpE (defs₀ (F := F)) 𝒱₀ (c : Thread nD τ) none) Set.univ (k (rowsS g)) Q)
      -∗ wp frame (wpE (defs₀ (F := F)) 𝒱₀ (c : Thread nD τ) none) Set.univ (.op (.load stM (rectS s b).toLoadRect hl) k) Q) := by
  unfold sPts
  iintro H Hk
  iapply (wp_load 𝒱₀ (c : Thread nD τ) none Set.univ (m := stM) (S := setS s b) (loadS_sub s b)) $$ H; iintro H
  rw [loadS]
  iapply Hk; iexact H

/-- A load of a head or of a row, and the store that replaces it. -/
theorem putC_step {α : Type} {Q : α → sProp 𝕄} (s : Fin 4) (b : Fin 2) (h : Fin 4) (f : S4x2x256x256.Idx → Elt F .bf16) (w : Vec F S1x1x256x64 .bf16)
    {hl : ctxM.view.LoadsAt (rectH s b h).toLoadRect} {hx : (ctxM.access (rectH s b h) : View sig .tc _ _ _).Stores Finset.univ}
    {hm : (Finset.univ : Finset (rectH s b h).shape.Idx) = Finset.univ ∨ ∀ a, (rectH s b h).stride a = 1}
    {k : PUnit → Prog (TpuEff nD τ sig (Elt F) Λ₀ .tc) α} :
    cPts c s b fullShare f ⊢ iprop((cPts c s b fullShare ((ctxM.access (rectH s b h) : View sig .tc _ _ _).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ
          (.op (.load ctxM (rectH s b h).toLoadRect hl) fun _ => .op (.store ctxM (rectH s b h) w Finset.univ hx hm) k) Q) := by
  unfold cPts
  iintro H Hk
  iapply (wp_load 𝒱₀ (c : Thread nD τ) none Set.univ (m := ctxM) (S := setC s b) (loadH_sub s b h)) $$ H; iintro H
  iapply (wp_store 𝒱₀ (c : Thread nD τ) none Set.univ (m := ctxM) (r := rectH s b h) (Mk := Finset.univ) (S := setC s b) (storeH_sub s b h)) $$ H; iintro H
  iapply Hk; iexact H
theorem putS_step {α : Type} {Q : α → sProp 𝕄} (s : Fin 4) (b : Fin 2) (h : Fin 4) (f : S4x2x4x256.Idx → Elt F .f32) (w : Vec F S1x1x1x256 .f32)
    {hl : stM.view.LoadsAt (rectR s b h).toLoadRect} {hx : (stM.access (rectR s b h) : View sig .tc _ _ _).Stores Finset.univ}
    {hm : (Finset.univ : Finset (rectR s b h).shape.Idx) = Finset.univ ∨ ∀ a, (rectR s b h).stride a = 1}
    {k : PUnit → Prog (TpuEff nD τ sig (Elt F) Λ₀ .tc) α} :
    sPts c s b fullShare f ⊢ iprop((sPts c s b fullShare ((stM.access (rectR s b h) : View sig .tc _ _ _).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ
          (.op (.load stM (rectR s b h).toLoadRect hl) fun _ => .op (.store stM (rectR s b h) w Finset.univ hx hm) k) Q) := by
  unfold sPts
  iintro H Hk
  iapply (wp_load 𝒱₀ (c : Thread nD τ) none Set.univ (m := stM) (S := setS s b) (loadR_sub s b h)) $$ H; iintro H
  iapply (wp_store 𝒱₀ (c : Thread nD τ) none Set.univ (m := stM) (r := rectR s b h) (Mk := Finset.univ) (S := setS s b) (storeR_sub s b h)) $$ H; iintro H
  iapply Hk; iexact H

/-- A load of a whole operand; of one batch's keys or values. -/
theorem readX (f : Vec F S2x256x512 .f32) :
    (Memref.whole cc0_stg0_0 : Memref sig .tc .vmem S2x256x512 .f32).view.readAt (Elt F)
      (Rect.unit (s := S2x256x512) ![0, 0, 0] S2x256x512.size inb_S2x256x512_S2x256x512_0_0_0).toLoadRect f = f :=
  Memref.readAt_unit_zero (Elt F) cc0_stg0_0 (funext fun a => by fin_cases a <;> rfl) _ f
theorem readWq (f : Vec F S512x256 .f32) :
    (Memref.whole cc0_stg1_0 : Memref sig .tc .vmem S512x256 .f32).view.readAt (Elt F)
      (Rect.unit (s := S512x256) ![0, 0] S512x256.size inb_S512x256_S512x256_0_0).toLoadRect f = f :=
  Memref.readAt_unit_zero (Elt F) cc0_stg1_0 (funext fun a => by fin_cases a <;> rfl) _ f
theorem readWo (f : Vec F S256x512 .f32) :
    (Memref.whole cc0_stg4_0 : Memref sig .tc .vmem S256x512 .f32).view.readAt (Elt F)
      (Rect.unit (s := S256x512) ![0, 0] S256x512.size inb_S256x512_S256x512_0_0).toLoadRect f = f :=
  Memref.readAt_unit_zero (Elt F) cc0_stg4_0 (funext fun a => by fin_cases a <;> rfl) _ f

theorem readK0 (f : Vec F S2x256x4x64 .f32) : (Memref.whole cc0_stg2_0 : Memref sig .tc .vmem S2x256x4x64 .f32).view.readAt (Elt F)
      (Rect.unit (s := S2x256x4x64) ![0, 0, 0, 0] S1x256x4x64.size inb_S2x256x4x64_S1x256x4x64_0_0_0_0).toLoadRect f = kvB f 0 := rfl
theorem readK1 (f : Vec F S2x256x4x64 .f32) : (Memref.whole cc0_stg2_0 : Memref sig .tc .vmem S2x256x4x64 .f32).view.readAt (Elt F)
      (Rect.unit (s := S2x256x4x64) ![1, 0, 0, 0] S1x256x4x64.size inb_S2x256x4x64_S1x256x4x64_1_0_0_0).toLoadRect f = kvB f 1 := rfl
theorem readV0 (f : Vec F S2x256x4x64 .f32) : (Memref.whole cc0_stg3_0 : Memref sig .tc .vmem S2x256x4x64 .f32).view.readAt (Elt F)
      (Rect.unit (s := S2x256x4x64) ![0, 0, 0, 0] S1x256x4x64.size inb_S2x256x4x64_S1x256x4x64_0_0_0_0).toLoadRect f = kvB f 0 := rfl
theorem readV1 (f : Vec F S2x256x4x64 .f32) : (Memref.whole cc0_stg3_0 : Memref sig .tc .vmem S2x256x4x64 .f32).view.readAt (Elt F)
      (Rect.unit (s := S2x256x4x64) ![1, 0, 0, 0] S1x256x4x64.size inb_S2x256x4x64_S1x256x4x64_1_0_0_0).toLoadRect f = kvB f 1 := rfl

end Mem

end Cert.KernelIdealProof

end
-- ==== Proof.Heads.lean ====
/-
The body's first half on a device `c`: the barrier's signals, the heads of both batches, and the transfers that send them.
-/
module

public import proofs.«01_k».proof.Proof.Access

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The neighbours' numbers, which the program computes and does not use again. -/
abbrev w5 (c : Dev nD) : BitVec 32 := Scalar.remsi (Scalar.subi (Scalar.addi (Scalar.remsi (Scalar.divsi (Dev.word c) 1#32) 4#32) 4#32) 1#32) 4#32
abbrev w7 (c : Dev nD) : BitVec 32 := Scalar.remsi (Scalar.addi (Scalar.remsi (Scalar.divsi (Dev.word c) 1#32) 4#32) 1#32) 4#32
abbrev w9 (c : Dev nD) : BitVec 32 := Scalar.remsi (Scalar.addi (Scalar.remsi (Scalar.divsi (Dev.word c) 1#32) 4#32) 2#32) 4#32

/-- A store of head `h` of slot `(s, b)` of the heads; of row `h` of the slot of sums of weights. -/
abbrev putC (s : Fin 4) (b : Fin 2) (h : Fin 4) (f : S4x2x256x256.Idx → Elt F .bf16) (w : Vec F S1x1x256x64 .bf16) : S4x2x256x256.Idx → Elt F .bf16 :=
  (ctxM.access (rectH s b h) : View sig .tc _ _ _).write (Elt F) f w Finset.univ
abbrev putS (s : Fin 4) (b : Fin 2) (h : Fin 4) (f : S4x2x4x256.Idx → Elt F .f32) (w : Vec F S1x1x1x256 .f32) : S4x2x4x256.Idx → Elt F .f32 :=
  (stM.access (rectR s b h) : View sig .tc _ _ _).write (Elt F) f w Finset.univ

/-- What starting a transfer takes: its tokens, the share it reads, and the slot it lands in. -/
abbrev goC (c : Dev nD) (b : Fin 2) (j : Fin 3) : sProp 𝕄 :=
  iprop(pend c (ixC b j) ∗ cPts c 0 b (shr j) (ctxBuf m ρ c b) ∗ ∃ f, cPts (tgt j c) (sl j) b fullShare f)
abbrev goS (c : Dev nD) (b : Fin 2) (j : Fin 3) : sProp 𝕄 :=
  iprop(pend c (ixS b j) ∗ sPts c 0 b (shr j) (statBuf m ρ c b) ∗ ∃ f, sPts (tgt j c) (sl j) b fullShare f)

omit [FloatOps F] [Named F] in
theorem cPts_congr (c : Dev nD) (s : Fin 4) (b : Fin 2) (q : PosShare TreeShare) {f g : S4x2x256x256.Idx → Elt F .bf16} (h : ∀ p ∈ setC s b, f p = g p) :
    cPts (F := F) c s b q f = cPts c s b q g := pointsTo_congr h
omit [FloatOps F] [Named F] in
theorem sPts_congr (c : Dev nD) (s : Fin 4) (b : Fin 2) (q : PosShare TreeShare) {f g : S4x2x4x256.Idx → Elt F .f32} (h : ∀ p ∈ setS s b, f p = g p) :
    sPts (F := F) c s b q f = sPts c s b q g := pointsTo_congr h

section Parts

variable (K : Dev nD × CK → ℕ) (c : Dev nD)

/-- The three signals on the barrier hand the landing slots to their senders. -/
theorem part1  {Kt : _ → sProp 𝕄} :
    iprop(records m ρ K ∗ ow c (owedBar c 0) ∗ (dutyTok ER (barCell (sdr 0 c)) 0 0 ∗ landing (F := F) c 0 0 ∗ landing (F := F) c 0 1)
      ∗ (dutyTok ER (barCell (sdr 1 c)) 0 1 ∗ landing (F := F) c 1 0 ∗ landing (F := F) c 1 1)
      ∗ (dutyTok ER (barCell (sdr 2 c)) 0 2 ∗ landing (F := F) c 2 0 ∗ landing (F := F) c 2 1))
      ⊢ iprop((ow c (owedFrom c 0) -∗ Kt ⟨c, w5 c, w7 c, w9 c, SemArray.scalar (sig.barrier 0 rfl), iota .tc S256x256 32 [0] iota_S256x256_d0_w32, 64#32, k0_pay1, k0_pay2, k0_pay3⟩)
        -∗ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 ) Kt) := by
  rw [k0_part1_eq_skeleton]; unfold k0_part1_skel
  simp only [semSignalWord, semWaitWord, Prog.lift, Prog.bind_op, Prog.bind_ret, Prog.pure_eq_ret, wp_deviceId]
  iintro ⟨#HR, HO, ⟨Ht0, Ha0, Hb0⟩, ⟨Ht1, Ha1, Hb1⟩, ⟨Ht2, Ha2, Hb2⟩⟩ Hk
  iapply (signal_step m ρ K c ⟨k0_dev1 c, k0_dev1_lt c⟩ 0 (by revert c; decide) (owedBar c 0) (owedBar c 1) rfl _ rfl) $$ [HO Ht0 Ha0 Hb0]
  · isplitr; · iexact HR
    isplitl [HO]; · iexact HO
    isplitl [Ht0]; · iexact Ht0
    isplitl [Ha0] <;> iassumption
  iintro HO
  iapply (signal_step m ρ K c ⟨k0_dev2 c, k0_dev2_lt c⟩ 1 (by revert c; decide) (owedBar c 1) (owedBar c 2) rfl _ rfl) $$ [HO Ht1 Ha1 Hb1]
  · isplitr; · iexact HR
    isplitl [HO]; · iexact HO
    isplitl [Ht1]; · iexact Ht1
    isplitl [Ha1] <;> iassumption
  iintro HO
  iapply (signal_step m ρ K c ⟨k0_dev3 c, k0_dev3_lt c⟩ 2 (by revert c; decide) (owedBar c 2) (owedBar c 3) rfl _ rfl) $$ [HO Ht2 Ha2 Hb2]
  · isplitr; · iexact HR
    isplitl [HO]; · iexact HO
    isplitl [Ht2]; · iexact Ht2
    isplitl [Ha2] <;> iassumption
  iintro HO
  rw [wp_ret]; imodintro
  iapply Hk
  iexact HO

/-- The mask's bias, and the scaled query weights. -/
theorem part2 (WQ : Vec F S512x256 .f32) (v17 : IVec S256x256 32) (c64 : BitVec 32) (v19 v26 v32 : IVec S256x256 32) {Kt : _ → sProp 𝕄} :
    stg c cc0_stg1_0 WQ
      ⊢ iprop((stg c cc0_stg1_0 WQ -∗ Kt ⟨k0_pay4 (F := F) v17 c64 v19 v26 v32, k0_pay5 WQ⟩)
        -∗ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v17 c64 v19 v26 v32) Kt) := by
  rw [k0_part2_eq_skeleton]; unfold k0_part2_skel
  simp only [semSignalWord, semWaitWord, Prog.lift, Prog.bind_op, Prog.bind_ret, Prog.pure_eq_ret, wp_deviceId]
  iintro H Hk
  iapply (wp_load 𝒱₀ (c : Thread nD τ) none Set.univ (m := Memref.whole cc0_stg1_0) (Finset.subset_univ _)) $$ H; iintro H
  rw [readWq]
  rw [wp_ret]; imodintro
  iapply Hk
  iexact H

/-- Head 0 of batch 0. -/
theorem part3 (X : Vec F S2x256x512 .f32) (KK VV : Vec F S2x256x4x64 .f32) (fC : S4x2x256x256.Idx → Elt F .bf16) (fS : S4x2x4x256.Idx → Elt F .f32)
    (v70 : FVec F S256x256 .f32) (v75 : FVec F S512x256 .bf16) {Kt : _ → sProp 𝕄} :
    iprop(stg c cc0_stg0_0 X ∗ stg c cc0_stg2_0 KK ∗ stg c cc0_stg3_0 VV ∗ cPts c 0 0 fullShare fC ∗ sPts c 0 0 fullShare fS)
      ⊢ iprop(((stg c cc0_stg0_0 X ∗ stg c cc0_stg2_0 KK ∗ stg c cc0_stg3_0 VV ∗ cPts c 0 0 fullShare (putC 0 0 0 fC (k0_pay11 v70 v75 X (kvB KK 0) (kvB VV 0)))
          ∗ sPts c 0 0 fullShare (putS 0 0 0 fS (k0_pay12 v70 v75 X (kvB KK 0)))) -∗ Kt ⟨k0_pay6 v75 X, k0_pay7 v75 X, k0_pay8 (kvB KK 0), k0_pay9 (kvB VV 0), k0_pay13 v75 X (kvB KK 0)⟩)
        -∗ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v70 v75) Kt) := by
  rw [k0_part3_eq_skeleton]; unfold k0_part3_skel
  simp only [semSignalWord, semWaitWord, Prog.lift, Prog.bind_op, Prog.bind_ret, Prog.pure_eq_ret, wp_deviceId]
  iintro ⟨HX, HK, HV, HC, HS⟩ Hk
  iapply (wp_load 𝒱₀ (c : Thread nD τ) none Set.univ (m := Memref.whole cc0_stg0_0) (Finset.subset_univ _)) $$ HX; iintro HX
  rw [readX]
  iapply (wp_load 𝒱₀ (c : Thread nD τ) none Set.univ (m := Memref.whole cc0_stg2_0) (Finset.subset_univ _)) $$ HK; iintro HK
  rw [readK0]
  iapply (wp_load 𝒱₀ (c : Thread nD τ) none Set.univ (m := Memref.whole cc0_stg3_0) (Finset.subset_univ _)) $$ HV; iintro HV
  rw [readV0]
  iapply (putC_step c 0 0 0) $$ HC; iintro HC
  iapply (putS_step c 0 0 0) $$ HS; iintro HS
  rw [wp_ret]; imodintro
  iapply Hk
  isplitl [HX]; · iexact HX
  isplitl [HK]; · iexact HK
  isplitl [HV]; · iexact HV
  isplitl [HC]; · iexact HC
  iexact HS

/-- Heads 1 and 2 of batch 0. -/
theorem part4 (fC : S4x2x256x256.Idx → Elt F .bf16) (fS : S4x2x4x256.Idx → Elt F .f32)
    (v70 v81 : FVec F S256x256 .f32) (v85 v89 : FVec F S256x256 .bf16) (v112 : FVec F S256x256 .f32) {Kt : _ → sProp 𝕄} :
    iprop(cPts c 0 0 fullShare fC ∗ sPts c 0 0 fullShare fS)
      ⊢ iprop(((cPts c 0 0 fullShare (putC 0 0 2 (putC 0 0 1 fC (k0_pay15 v70 v89 v112)) (k0_pay18 v70 v81 v85 v89))
          ∗ sPts c 0 0 fullShare (putS 0 0 2 (putS 0 0 1 fS (k0_pay16 v70 v112)) (k0_pay19 v70 v81 v85))) -∗ Kt (k0_pay20 v81))
        -∗ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v70 v81 v85 v89 v112) Kt) := by
  rw [k0_part4_eq_skeleton]; unfold k0_part4_skel
  simp only [semSignalWord, semWaitWord, Prog.lift, Prog.bind_op, Prog.bind_ret, Prog.pure_eq_ret, wp_deviceId]
  iintro ⟨HC, HS⟩ Hk
  iapply (putC_step c 0 0 1) $$ HC; iintro HC
  iapply (putS_step c 0 0 1) $$ HS; iintro HS
  iapply (putC_step c 0 0 2) $$ HC; iintro HC
  iapply (putS_step c 0 0 2) $$ HS; iintro HS
  rw [wp_ret]; imodintro
  iapply Hk
  isplitl [HC]; · iexact HC
  iexact HS

/-- Head 3 of batch 0, the barrier's wait, and the first transfer: by then the slot of sums of weights is complete (`hS`). -/
theorem part5 (fC : S4x2x256x256.Idx → Elt F .bf16) (fS : S4x2x4x256.Idx → Elt F .f32)
    (v7 : BitVec 32) (v70 : FVec F S256x256 .f32) (v85 v89 : FVec F S256x256 .bf16) (v147 : FVec F S256x64 .f32)
    (hS : ∀ p ∈ setS 0 0, putS 0 0 3 fS (k0_pay23 v70 v85 v147) p = statBuf m ρ c 0 p) {Kt : _ → sProp 𝕄} :
    iprop(records m ρ K ∗ (ow c (owedFrom c 0) ∗ levAts L lv ∗ atPos ER (barCell c) 0 ∅ 0 ∗ cred (tallyAt (barCell c) () 3))
      ∗ cPts c 0 0 fullShare fC ∗ sPts c 0 0 fullShare fS ∗ pend c (ixS 0 0))
      ⊢ iprop(((ow c (owedFrom c 1) ∗ semVal (barCell c) 0 ∗ ((∃ f, cPts (F := F) (tgt 0 c) (sl 0) 0 fullShare f) ∗ landing (F := F) (tgt 0 c) 0 1) ∗ barPay (F := F) c 1 ∗ barPay (F := F) c 2
          ∗ cPts c 0 0 fullShare (putC 0 0 3 fC (k0_pay22 v70 v85 v89 v147)) ∗ flight c (ixS 0 0) 0
          ∗ sPts c 0 0 (shr 1) (statBuf m ρ c 0) ∗ sPts c 0 0 (shr 2) (statBuf m ρ c 0) ∗ sPts c 0 0 shK (statBuf m ρ c 0)) -∗ Kt ⟨⟩)
        -∗ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 c v7 (SemArray.scalar (sig.barrier 0 rfl)) v70 v85 v89 v147) Kt) := by
  rw [k0_part5_eq_skeleton]; unfold k0_part5_skel
  simp only [semSignalWord, semWaitWord, Prog.lift, Prog.bind_op, Prog.bind_ret, Prog.pure_eq_ret, wp_deviceId]
  iintro ⟨#HR, HB, HC, HS, HP⟩ Hk
  iapply (putC_step c 0 0 3) $$ HC; iintro HC
  iapply (putS_step c 0 0 3) $$ HS; iintro HS
  iapply (barrier_step m ρ K c _ rfl) $$ [HB]
  · isplitr; · iexact HR
    iexact HB
  unfold barPay landing
  iintro ⟨HO, Hz, ⟨⟨HL, HD⟩, HL1⟩, HB1, HB2⟩
  ihave HS := (Entails.of_eq (sPts_congr c 0 0 fullShare hS)) $$ HS
  ihave HS := (sPts_shares c 0 0 (statBuf m ρ c 0)).1 $$ HS
  icases HS with ⟨⟨HS0, HS1⟩, HS2, HSk⟩
  iapply (sendS_step m ρ K c ⟨k0_dev4 c, k0_dev4_lt c⟩ 0 0 (by clear hS; revert c; decide) _ _ rfl rfl (owedFrom c 0) (owedFrom c 1) rfl) $$ [HO HP HS0 HD]
  · isplitr; · iexact HR
    isplitl [HO]; · iexact HO
    isplitl [HP]; · iexact HP
    isplitl [HS0] <;> iassumption
  iintro ⟨HO, HF⟩
  rw [wp_ret]; imodintro
  iapply Hk
  isplitl [HO]; · iexact HO
  isplitl [Hz]; · iexact Hz
  isplitl [HL HL1]; · isplitl [HL] <;> iassumption
  isplitl [HB1]; · iexact HB1
  isplitl [HB2]; · iexact HB2
  isplitl [HC]; · iexact HC
  isplitl [HF]; · iexact HF
  isplitl [HS1]; · iexact HS1
  isplitl [HS2] <;> iassumption

/-- Transfers. -/
theorem part6 (v5 v7 : BitVec 32) {Kt : _ → sProp 𝕄} :
    iprop(records m ρ K ∗ ow c (owedFrom c 1) ∗ goC m ρ c 0 0 ∗ goS m ρ c 0 1)
      ⊢ iprop(((ow c (owedFrom c 3) ∗ flight c (ixC 0 0) 0 ∗ flight c (ixS 0 1) 0) -∗ Kt ⟨⟩)
        -∗ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 c v5 v7) Kt) := by
  rw [k0_part6_eq_skeleton]; unfold k0_part6_skel
  simp only [semSignalWord, semWaitWord, Prog.lift, Prog.bind_op, Prog.bind_ret, Prog.pure_eq_ret, wp_deviceId]
  iintro ⟨#HR, HO, HC00, HS01⟩ Hk
  iapply (sendC_step m ρ K c ⟨k0_dev5 c, k0_dev5_lt c⟩ 0 0 (by revert c; decide) _ _ rfl rfl (owedFrom c 1) (owedFrom c 2) rfl) $$ [HO HC00]
  · isplitr; · iexact HR
    isplitl [HO]; · iexact HO
    iexact HC00
  iintro ⟨HO, HC00⟩
  iapply (sendS_step m ρ K c ⟨k0_dev6 c, k0_dev6_lt c⟩ 0 1 (by revert c; decide) _ _ rfl rfl (owedFrom c 2) (owedFrom c 3) rfl) $$ [HO HS01]
  · isplitr; · iexact HR
    isplitl [HO]; · iexact HO
    iexact HS01
  iintro ⟨HO, HS01⟩
  rw [wp_ret]; imodintro
  iapply Hk
  isplitl [HO]; · iexact HO
  isplitl [HC00]; · iexact HC00
  iexact HS01

/-- Transfers, and the load of batch 1's keys. -/
theorem part7 (v9 : BitVec 32) (v80 : FVec F S512x256 .f32) (KK : Vec F S2x256x4x64 .f32) {Kt : _ → sProp 𝕄} :
    iprop(records m ρ K ∗ ow c (owedFrom c 3) ∗ stg c cc0_stg2_0 KK ∗ goC m ρ c 0 1 ∗ goS m ρ c 0 2 ∗ goC m ρ c 0 2)
      ⊢ iprop(((ow c (owedFrom c 6) ∗ stg c cc0_stg2_0 KK ∗ flight c (ixC 0 1) 0 ∗ flight c (ixS 0 2) 0 ∗ flight c (ixC 0 2) 0) -∗ Kt ⟨k0_pay24 v80, k0_pay25 (kvB KK 1)⟩)
        -∗ wp frame (wpE (defs₀ (F := F)) 𝒱₀ (c : Thread nD τ) none) Set.univ
          (k0_part7 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 c v9 v80) Kt) := by
  rw [k0_part7_eq_skeleton]; unfold k0_part7_skel
  simp only [semSignalWord, semWaitWord, Prog.lift, Prog.bind_op, Prog.bind_ret, Prog.pure_eq_ret, wp_deviceId]
  iintro ⟨#HR, HO, HX, HC01, HS02, HC02⟩ Hk
  iapply (sendC_step m ρ K c ⟨k0_dev7 c, k0_dev7_lt c⟩ 0 1 (by revert c; decide) _ _ rfl rfl (owedFrom c 3) (owedFrom c 4) rfl) $$ [HO HC01]
  · isplitr; · iexact HR
    isplitl [HO]; · iexact HO
    iexact HC01
  iintro ⟨HO, HC01⟩
  iapply (sendS_step m ρ K c ⟨k0_dev8 c, k0_dev8_lt c⟩ 0 2 (by revert c; decide) _ _ rfl rfl (owedFrom c 4) (owedFrom c 5) rfl) $$ [HO HS02]
  · isplitr; · iexact HR
    isplitl [HO]; · iexact HO
    iexact HS02
  iintro ⟨HO, HS02⟩
  iapply (sendC_step m ρ K c ⟨k0_dev9 c, k0_dev9_lt c⟩ 0 2 (by revert c; decide) _ _ rfl rfl (owedFrom c 5) (owedFrom c 6) rfl) $$ [HO HC02]
  · isplitr; · iexact HR
    isplitl [HO]; · iexact HO
    iexact HC02
  iintro ⟨HO, HC02⟩
  iapply (wp_load 𝒱₀ (c : Thread nD τ) none Set.univ (m := Memref.whole cc0_stg2_0) (Finset.subset_univ _)) $$ HX; iintro HX
  rw [readK1]
  rw [wp_ret]; imodintro
  iapply Hk
  isplitl [HO]; · iexact HO
  isplitl [HX]; · iexact HX
  isplitl [HC01]; · iexact HC01
  isplitl [HS02]; · iexact HS02
  iexact HC02

/-- Head 0 of batch 1. -/
theorem part8 (fC : S4x2x256x256.Idx → Elt F .bf16) (fS : S4x2x4x256.Idx → Elt F .f32) (v70 v226 v229 : FVec F S256x256 .f32) (VV : Vec F S2x256x4x64 .f32) {Kt : _ → sProp 𝕄} :
    iprop(stg c cc0_stg3_0 VV ∗ cPts c 0 1 fullShare fC ∗ sPts c 0 1 fullShare fS)
      ⊢ iprop(((stg c cc0_stg3_0 VV ∗ cPts c 0 1 fullShare (putC 0 1 0 fC (k0_pay29 v70 v226 v229 (kvB VV 1)))
          ∗ sPts c 0 1 fullShare (putS 0 1 0 fS (k0_pay30 v70 v226 v229))) -∗ Kt ⟨k0_pay26 v229, k0_pay27 (kvB VV 1), k0_pay32 v70 v226 v229, k0_pay33 v70 v226 v229 (kvB VV 1)⟩)
        -∗ wp frame (wpE (defs₀ (F := F)) 𝒱₀ (c : Thread nD τ) none) Set.univ
          (k0_part8 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v70 v226 v229) Kt) := by
  rw [k0_part8_eq_skeleton]; unfold k0_part8_skel
  simp only [semSignalWord, semWaitWord, Prog.lift, Prog.bind_op, Prog.bind_ret, Prog.pure_eq_ret, wp_deviceId]
  iintro ⟨HX, HC, HS⟩ Hk
  iapply (wp_load 𝒱₀ (c : Thread nD τ) none Set.univ (m := Memref.whole cc0_stg3_0) (Finset.subset_univ _)) $$ HX; iintro HX
  rw [readV1]
  iapply (putC_step c 0 1 0) $$ HC; iintro HC
  iapply (putS_step c 0 1 0) $$ HS; iintro HS
  rw [wp_ret]; imodintro
  iapply Hk
  isplitl [HX]; · iexact HX
  isplitl [HC]; · iexact HC
  iexact HS

/-- Heads 1 and 2 of batch 1. -/
theorem part9 (fC : S4x2x256x256.Idx → Elt F .bf16) (fS : S4x2x4x256.Idx → Elt F .f32) (v70 v226 : FVec F S256x256 .f32) (v230 v234 : FVec F S256x256 .bf16) (v261 : FVec F S256x1 .f32) (v265 : FVec F S256x64 .bf16) {Kt : _ → sProp 𝕄} :
    iprop(cPts c 0 1 fullShare fC ∗ sPts c 0 1 fullShare fS)
      ⊢ iprop(((cPts c 0 1 fullShare (putC 0 1 2 (putC 0 1 1 fC (k0_pay34 v265)) (k0_pay37 v70 v226 v230 v234))
          ∗ sPts c 0 1 fullShare (putS 0 1 2 (putS 0 1 1 fS (k0_pay35 v261)) (k0_pay38 v70 v226 v230))) -∗ Kt ⟨k0_pay40 v70 v226 v230, k0_pay41 v70 v226 v230 v234⟩)
        -∗ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v70 v226 v230 v234 v261 v265) Kt) := by
  rw [k0_part9_eq_skeleton]; unfold k0_part9_skel
  simp only [semSignalWord, semWaitWord, Prog.lift, Prog.bind_op, Prog.bind_ret, Prog.pure_eq_ret, wp_deviceId]
  iintro ⟨HC, HS⟩ Hk
  iapply (putC_step c 0 1 1) $$ HC; iintro HC
  iapply (putS_step c 0 1 1) $$ HS; iintro HS
  iapply (putC_step c 0 1 2) $$ HC; iintro HC
  iapply (putS_step c 0 1 2) $$ HS; iintro HS
  rw [wp_ret]; imodintro
  iapply Hk
  isplitl [HC]; · iexact HC
  iexact HS

/-- Head 3 of batch 1, and its first transfer. -/
theorem part10 (fC : S4x2x256x256.Idx → Elt F .bf16) (fS : S4x2x4x256.Idx → Elt F .f32)
    (v7 : BitVec 32) (v299 : FVec F S256x1 .f32) (v303 : FVec F S256x64 .bf16)
    (hS : ∀ p ∈ setS 0 1, putS 0 1 3 fS (k0_pay43 v299) p = statBuf m ρ c 1 p) {Kt : _ → sProp 𝕄} :
    iprop(records m ρ K ∗ ow c (owedFrom c 6) ∗ cPts c 0 1 fullShare fC ∗ sPts c 0 1 fullShare fS ∗ pend c (ixS 1 0) ∗ (∃ f, sPts (F := F) (tgt 0 c) (sl 0) 1 fullShare f))
      ⊢ iprop(((ow c (owedFrom c 7) ∗ cPts c 0 1 fullShare (putC 0 1 3 fC (k0_pay42 v303)) ∗ flight c (ixS 1 0) 0
          ∗ sPts c 0 1 (shr 1) (statBuf m ρ c 1) ∗ sPts c 0 1 (shr 2) (statBuf m ρ c 1) ∗ sPts c 0 1 shK (statBuf m ρ c 1)) -∗ Kt ⟨⟩)
        -∗ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 c v7 v299 v303) Kt) := by
  rw [k0_part10_eq_skeleton]; unfold k0_part10_skel
  simp only [semSignalWord, semWaitWord, Prog.lift, Prog.bind_op, Prog.bind_ret, Prog.pure_eq_ret, wp_deviceId]
  iintro ⟨#HR, HO, HC, HS, HP, HD⟩ Hk
  iapply (putC_step c 0 1 3) $$ HC; iintro HC
  iapply (putS_step c 0 1 3) $$ HS; iintro HS
  ihave HS := (Entails.of_eq (sPts_congr c 0 1 fullShare hS)) $$ HS
  ihave HS := (sPts_shares c 0 1 (statBuf m ρ c 1)).1 $$ HS
  icases HS with ⟨⟨HS0, HS1⟩, HS2, HSk⟩
  iapply (sendS_step m ρ K c ⟨k0_dev10 c, k0_dev10_lt c⟩ 1 0 (by clear hS; revert c; decide) _ _ rfl rfl (owedFrom c 6) (owedFrom c 7) rfl) $$ [HO HP HS0 HD]
  · isplitr; · iexact HR
    isplitl [HO]; · iexact HO
    isplitl [HP]; · iexact HP
    isplitl [HS0] <;> iassumption
  iintro ⟨HO, HF⟩
  rw [wp_ret]; imodintro
  iapply Hk
  isplitl [HO]; · iexact HO
  isplitl [HC]; · iexact HC
  isplitl [HF]; · iexact HF
  isplitl [HS1]; · iexact HS1
  isplitl [HS2] <;> iassumption

/-- Transfers. -/
theorem part11 (v5 v9 : BitVec 32) {Kt : _ → sProp 𝕄} :
    iprop(records m ρ K ∗ ow c (owedFrom c 7) ∗ goC m ρ c 1 0 ∗ goS m ρ c 1 1 ∗ goC m ρ c 1 1)
      ⊢ iprop(((ow c (owedFrom c 10) ∗ flight c (ixC 1 0) 0 ∗ flight c (ixS 1 1) 0 ∗ flight c (ixC 1 1) 0) -∗ Kt ⟨⟩)
        -∗ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 c v5 v9) Kt) := by
  rw [k0_part11_eq_skeleton]; unfold k0_part11_skel
  simp only [semSignalWord, semWaitWord, Prog.lift, Prog.bind_op, Prog.bind_ret, Prog.pure_eq_ret, wp_deviceId]
  iintro ⟨#HR, HO, HC10, HS11, HC11⟩ Hk
  iapply (sendC_step m ρ K c ⟨k0_dev11 c, k0_dev11_lt c⟩ 1 0 (by revert c; decide) _ _ rfl rfl (owedFrom c 7) (owedFrom c 8) rfl) $$ [HO HC10]
  · isplitr; · iexact HR
    isplitl [HO]; · iexact HO
    iexact HC10
  iintro ⟨HO, HC10⟩
  iapply (sendS_step m ρ K c ⟨k0_dev12 c, k0_dev12_lt c⟩ 1 1 (by revert c; decide) _ _ rfl rfl (owedFrom c 8) (owedFrom c 9) rfl) $$ [HO HS11]
  · isplitr; · iexact HR
    isplitl [HO]; · iexact HO
    iexact HS11
  iintro ⟨HO, HS11⟩
  iapply (sendC_step m ρ K c ⟨k0_dev13 c, k0_dev13_lt c⟩ 1 1 (by revert c; decide) _ _ rfl rfl (owedFrom c 9) (owedFrom c 10) rfl) $$ [HO HC11]
  · isplitr; · iexact HR
    isplitl [HO]; · iexact HO
    iexact HC11
  iintro ⟨HO, HC11⟩
  rw [wp_ret]; imodintro
  iapply Hk
  isplitl [HO]; · iexact HO
  isplitl [HC10]; · iexact HC10
  isplitl [HS11]; · iexact HS11
  iexact HC11

/-- The last transfers, and the load of the output weights. -/
theorem part12 (v7 v9 : BitVec 32) (WO : Vec F S256x512 .f32) {Kt : _ → sProp 𝕄} :
    iprop(records m ρ K ∗ ow c (owedFrom c 10) ∗ stg c cc0_stg4_0 WO ∗ goS m ρ c 1 2 ∗ goC m ρ c 1 2)
      ⊢ iprop(((ow c (owedFrom c 12) ∗ stg c cc0_stg4_0 WO ∗ flight c (ixS 1 2) 0 ∗ flight c (ixC 1 2) 0) -∗ Kt (k0_pay44 WO))
        -∗ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 c v7 v9) Kt) := by
  rw [k0_part12_eq_skeleton]; unfold k0_part12_skel
  simp only [semSignalWord, semWaitWord, Prog.lift, Prog.bind_op, Prog.bind_ret, Prog.pure_eq_ret, wp_deviceId]
  iintro ⟨#HR, HO, HX, HS12, HC12⟩ Hk
  iapply (sendS_step m ρ K c ⟨k0_dev14 c, k0_dev14_lt c⟩ 1 2 (by revert c; decide) _ _ rfl rfl (owedFrom c 10) (owedFrom c 11) rfl) $$ [HO HS12]
  · isplitr; · iexact HR
    isplitl [HO]; · iexact HO
    iexact HS12
  iintro ⟨HO, HS12⟩
  iapply (sendC_step m ρ K c ⟨k0_dev15 c, k0_dev15_lt c⟩ 1 2 (by revert c; decide) _ _ rfl rfl (owedFrom c 11) (owedFrom c 12) rfl) $$ [HO HC12]
  · isplitr; · iexact HR
    isplitl [HO]; · iexact HO
    iexact HC12
  iintro ⟨HO, HC12⟩
  iapply (wp_load 𝒱₀ (c : Thread nD τ) none Set.univ (m := Memref.whole cc0_stg4_0) (Finset.subset_univ _)) $$ HX; iintro HX
  rw [readWo]
  rw [wp_ret]; imodintro
  iapply Hk
  isplitl [HO]; · iexact HO
  isplitl [HX]; · iexact HX
  isplitl [HS12]; · iexact HS12
  iexact HC12

end Parts

end Cert.KernelIdealProof

end
-- ==== Proof.Gather.lean ====
/-
The body's second half on a device `c`: the waits for what the other devices send, the combination of the four devices' heads
for each batch, and the waits for its own transfers.
-/
module

public import proofs.«01_k».proof.Proof.Heads

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The share of slot `s` that device `c` loads through: what stays of its own slot, the whole of a landing slot. -/
def shH (s : Fin 4) : PosShare TreeShare := if s = 0 then shK else fullShare
/-- Slot `s` of batch `b` as the loads find it: the heads (the sums of weights) of the device it comes from. -/
def holdC (c : Dev nD) (b : Fin 2) (s : Fin 4) : sProp 𝕄 := cPts c s b (shH s) (ctxBuf m ρ (src s c) b)
def holdS (c : Dev nD) (b : Fin 2) (s : Fin 4) : sProp 𝕄 := sPts c s b (shH s) (statBuf m ρ (src s c) b)

theorem recvC (c : Dev nD) (b : Fin 2) (j : Fin 3) : dmaPay m ρ c (ixC b j) 1 = holdC m ρ c b (sl j) := by
  show recvPay m ρ c (ixC b j) = _
  unfold recvPay holdC
  rw [if_pos (isC_ixC b j), bOf_ixC, jOf_ixC, src_sl, shH, if_neg (show sl j ≠ 0 from Fin.succ_ne_zero j)]
theorem recvS (c : Dev nD) (b : Fin 2) (j : Fin 3) : dmaPay m ρ c (ixS b j) 1 = holdS m ρ c b (sl j) := by
  show recvPay m ρ c (ixS b j) = _
  unfold recvPay holdS
  rw [if_neg (by rw [isC_ixS]; exact Bool.false_ne_true), bOf_ixS, jOf_ixS, src_sl, shH, if_neg (show sl j ≠ 0 from Fin.succ_ne_zero j)]
theorem sentC (c : Dev nD) (b : Fin 2) (j : Fin 3) : dmaPay m ρ c (ixC b j) 0 = cPts c 0 b (shr j) (ctxBuf m ρ c b) := by
  show sendPay m ρ c (ixC b j) = _
  unfold sendPay
  rw [if_pos (isC_ixC b j), bOf_ixC, jOf_ixC]
theorem sentS (c : Dev nD) (b : Fin 2) (j : Fin 3) : dmaPay m ρ c (ixS b j) 0 = sPts c 0 b (shr j) (statBuf m ρ c b) := by
  show sendPay m ρ c (ixS b j) = _
  unfold sendPay
  rw [if_neg (by rw [isC_ixS]; exact Bool.false_ne_true), bOf_ixS, jOf_ixS]

section Parts

variable (K : Dev nD × CK → ℕ) (c : Dev nD)

/-- A load of head `h` of slot `s`; of a slot of sums of weights. -/
theorem seeC {α : Type} {Q : α → sProp 𝕄} (b : Fin 2) (s h : Fin 4)
    {hl : ctxM.view.LoadsAt (rectH s b h).toLoadRect} {k : Vec F S1x1x256x64 .bf16 → Prog (TpuEff nD τ sig (Elt F) Λ₀ .tc) α} :
    holdC m ρ c b s ⊢ iprop((holdC m ρ c b s -∗ wp frame (wpE (defs₀ (F := F)) 𝒱₀ (c : Thread nD τ) none) Set.univ (k (ctxHead m ρ (src s c) b h)) Q)
      -∗ wp frame (wpE (defs₀ (F := F)) 𝒱₀ (c : Thread nD τ) none) Set.univ (.op (.load ctxM (rectH s b h).toLoadRect hl) k) Q) := loadC_step c s b h (shH s) (ctxHead m ρ (src s c) b)
theorem seeS {α : Type} {Q : α → sProp 𝕄} (b : Fin 2) (s : Fin 4)
    {hl : stM.view.LoadsAt (rectS s b).toLoadRect} {k : Vec F S1x1x4x256 .f32 → Prog (TpuEff nD τ sig (Elt F) Λ₀ .tc) α} :
    holdS m ρ c b s ⊢ iprop((holdS m ρ c b s -∗ wp frame (wpE (defs₀ (F := F)) 𝒱₀ (c : Thread nD τ) none) Set.univ (k (rowsS (statHead m ρ (src s c) b))) Q)
      -∗ wp frame (wpE (defs₀ (F := F)) 𝒱₀ (c : Thread nD τ) none) Set.univ (.op (.load stM (rectS s b).toLoadRect hl) k) Q) := loadS_step c s b (shH s) (statHead m ρ (src s c) b)

/-- Batch 0: the three devices' sums of weights arrive. -/
theorem part13 (v5 v9 : BitVec 32) {Kt : _ → sProp 𝕄} :
    iprop(records m ρ K ∗ ow c 0 ∗ flight c (ixS 0 0) 1 ∗ flight c (ixS 0 1) 1 ∗ flight c (ixS 0 2) 1 ∗ holdS m ρ c 0 0)
      ⊢ iprop(((ow c 0 ∗ shut c (ixS 0 0) 1 ∗ holdS m ρ c 0 1 ∗ shut c (ixS 0 1) 1 ∗ holdS m ρ c 0 2 ∗ shut c (ixS 0 2) 1 ∗ holdS m ρ c 0 3 ∗ holdS m ρ c 0 0) -∗ Kt (k0_pay45 (rowsS (statHead m ρ (src 0 c) 0)) (rowsS (statHead m ρ (src 1 c) 0))))
        -∗ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v5 v9) Kt) := by
  rw [k0_part13_eq_skeleton]; unfold k0_part13_skel
  simp only [semSignalWord, semWaitWord, Prog.lift, Prog.bind_op, Prog.bind_ret, Prog.pure_eq_ret, wp_deviceId]
  iintro ⟨#HR, HO, HFS0, HFS1, HFS2, HS0⟩ Hk
  iapply (wait_step m ρ K c (ixS 0 0) 1 _ rfl (dst := slotS 1 0) (amt_ixS 0 0).symm) $$ [HO HFS0]
  · isplitr; · iexact HR
    isplitl [HO] <;> iassumption
  rw [recvS, show sl 0 = 1 from rfl]
  iintro ⟨HO, HZS0, HS1⟩
  iapply (wait_step m ρ K c (ixS 0 1) 1 _ rfl (dst := slotS 2 0) (amt_ixS 0 1).symm) $$ [HO HFS1]
  · isplitr; · iexact HR
    isplitl [HO] <;> iassumption
  rw [recvS, show sl 1 = 2 from rfl]
  iintro ⟨HO, HZS1, HS2⟩
  iapply (wait_step m ρ K c (ixS 0 2) 1 _ rfl (dst := slotS 3 0) (amt_ixS 0 2).symm) $$ [HO HFS2]
  · isplitr; · iexact HR
    isplitl [HO] <;> iassumption
  rw [recvS, show sl 2 = 3 from rfl]
  iintro ⟨HO, HZS2, HS3⟩
  iapply (seeS m ρ c 0 0) $$ HS0; iintro HS0
  iapply (seeS m ρ c 0 1) $$ HS1; iintro HS1
  rw [wp_ret]; imodintro
  iapply Hk
  isplitl [HO]; · iexact HO
  isplitl [HZS0]; · iexact HZS0
  isplitl [HS1]; · iexact HS1
  isplitl [HZS1]; · iexact HZS1
  isplitl [HS2]; · iexact HS2
  isplitl [HZS2]; · iexact HZS2
  isplitl [HS3]; · iexact HS3
  iexact HS0

/-- Batch 0: the sum of the weights; two devices' heads arrive. -/
theorem part14 (v5 v7 : BitVec 32) (v : FVec F S4x256 .f32) {Kt : _ → sProp 𝕄} :
    iprop(records m ρ K ∗ ow c 0 ∗ flight c (ixC 0 0) 1 ∗ flight c (ixC 0 1) 1 ∗ holdS m ρ c 0 2 ∗ holdS m ρ c 0 3)
      ⊢ iprop(((ow c 0 ∗ shut c (ixC 0 0) 1 ∗ holdC m ρ c 0 1 ∗ shut c (ixC 0 1) 1 ∗ holdC m ρ c 0 2 ∗ holdS m ρ c 0 2 ∗ holdS m ρ c 0 3) -∗ Kt (k0_pay46 v (rowsS (statHead m ρ (src 2 c) 0)) (rowsS (statHead m ρ (src 3 c) 0))))
        -∗ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v5 v7 v) Kt) := by
  rw [k0_part14_eq_skeleton]; unfold k0_part14_skel
  simp only [semSignalWord, semWaitWord, Prog.lift, Prog.bind_op, Prog.bind_ret, Prog.pure_eq_ret, wp_deviceId]
  iintro ⟨#HR, HO, HFC0, HFC1, HS2, HS3⟩ Hk
  iapply (seeS m ρ c 0 2) $$ HS2; iintro HS2
  iapply (seeS m ρ c 0 3) $$ HS3; iintro HS3
  iapply (wait_step m ρ K c (ixC 0 0) 1 _ rfl (dst := slotC 1 0) (amt_ixC 0 0).symm) $$ [HO HFC0]
  · isplitr; · iexact HR
    isplitl [HO] <;> iassumption
  rw [recvC, show sl 0 = 1 from rfl]
  iintro ⟨HO, HZC0, HC1⟩
  iapply (wait_step m ρ K c (ixC 0 1) 1 _ rfl (dst := slotC 2 0) (amt_ixC 0 1).symm) $$ [HO HFC1]
  · isplitr; · iexact HR
    isplitl [HO] <;> iassumption
  rw [recvC, show sl 1 = 2 from rfl]
  iintro ⟨HO, HZC1, HC2⟩
  rw [wp_ret]; imodintro
  iapply Hk
  isplitl [HO]; · iexact HO
  isplitl [HZC0]; · iexact HZC0
  isplitl [HC1]; · iexact HC1
  isplitl [HZC1]; · iexact HZC1
  isplitl [HC2]; · iexact HC2
  isplitl [HS2]; · iexact HS2
  iexact HS3

/-- Batch 0: the third device's heads arrive, and head 0 is combined. -/
theorem part15 (v9 : BitVec 32) (v : FVec F S256x4 .f32) {Kt : _ → sProp 𝕄} :
    iprop(records m ρ K ∗ ow c 0 ∗ flight c (ixC 0 2) 1 ∗ holdC m ρ c 0 0 ∗ holdC m ρ c 0 1 ∗ holdC m ρ c 0 2)
      ⊢ iprop(((ow c 0 ∗ shut c (ixC 0 2) 1 ∗ holdC m ρ c 0 3 ∗ holdC m ρ c 0 0 ∗ holdC m ρ c 0 1 ∗ holdC m ρ c 0 2) -∗ Kt ⟨k0_pay47 v (ctxHead m ρ (src 0 c) 0 0) (ctxHead m ρ (src 1 c) 0 0) (ctxHead m ρ (src 2 c) 0 0) (ctxHead m ρ (src 3 c) 0 0), k0_pay48 (ctxHead m ρ (src 0 c) 0 1)⟩)
        -∗ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v9 v) Kt) := by
  rw [k0_part15_eq_skeleton]; unfold k0_part15_skel
  simp only [semSignalWord, semWaitWord, Prog.lift, Prog.bind_op, Prog.bind_ret, Prog.pure_eq_ret, wp_deviceId]
  iintro ⟨#HR, HO, HFC2, HC0, HC1, HC2⟩ Hk
  iapply (wait_step m ρ K c (ixC 0 2) 1 _ rfl (dst := slotC 3 0) (amt_ixC 0 2).symm) $$ [HO HFC2]
  · isplitr; · iexact HR
    isplitl [HO] <;> iassumption
  rw [recvC, show sl 2 = 3 from rfl]
  iintro ⟨HO, HZC2, HC3⟩
  iapply (seeC m ρ c 0 0 0) $$ HC0; iintro HC0
  iapply (seeC m ρ c 0 1 0) $$ HC1; iintro HC1
  iapply (seeC m ρ c 0 2 0) $$ HC2; iintro HC2
  iapply (seeC m ρ c 0 3 0) $$ HC3; iintro HC3
  iapply (seeC m ρ c 0 0 1) $$ HC0; iintro HC0
  rw [wp_ret]; imodintro
  iapply Hk
  isplitl [HO]; · iexact HO
  isplitl [HZC2]; · iexact HZC2
  isplitl [HC3]; · iexact HC3
  isplitl [HC0]; · iexact HC0
  isplitl [HC1]; · iexact HC1
  iexact HC2

/-- Batch 0: heads 1 and 2 are combined. -/
theorem part16 (v : FVec F S256x4 .f32) (u : FVec F S256x64 .f32) {Kt : _ → sProp 𝕄} :
    iprop(holdC m ρ c 0 1 ∗ holdC m ρ c 0 2 ∗ holdC m ρ c 0 3 ∗ holdC m ρ c 0 0)
      ⊢ iprop(((holdC m ρ c 0 1 ∗ holdC m ρ c 0 2 ∗ holdC m ρ c 0 3 ∗ holdC m ρ c 0 0) -∗ Kt ⟨k0_pay49 v u (ctxHead m ρ (src 1 c) 0 1) (ctxHead m ρ (src 2 c) 0 1) (ctxHead m ρ (src 3 c) 0 1), k0_pay50 v (ctxHead m ρ (src 0 c) 0 2) (ctxHead m ρ (src 1 c) 0 2) (ctxHead m ρ (src 2 c) 0 2) (ctxHead m ρ (src 3 c) 0 2)⟩)
        -∗ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v u) Kt) := by
  rw [k0_part16_eq_skeleton]; unfold k0_part16_skel
  simp only [semSignalWord, semWaitWord, Prog.lift, Prog.bind_op, Prog.bind_ret, Prog.pure_eq_ret, wp_deviceId]
  iintro ⟨HC1, HC2, HC3, HC0⟩ Hk
  iapply (seeC m ρ c 0 1 1) $$ HC1; iintro HC1
  iapply (seeC m ρ c 0 2 1) $$ HC2; iintro HC2
  iapply (seeC m ρ c 0 3 1) $$ HC3; iintro HC3
  iapply (seeC m ρ c 0 0 2) $$ HC0; iintro HC0
  iapply (seeC m ρ c 0 1 2) $$ HC1; iintro HC1
  iapply (seeC m ρ c 0 2 2) $$ HC2; iintro HC2
  iapply (seeC m ρ c 0 3 2) $$ HC3; iintro HC3
  rw [wp_ret]; imodintro
  iapply Hk
  isplitl [HC1]; · iexact HC1
  isplitl [HC2]; · iexact HC2
  isplitl [HC3]; · iexact HC3
  iexact HC0

/-- Batch 0: head 3 is combined, and the batch's rows of the result are stored. -/
theorem part17 (v7 : BitVec 32) (v373 : FVec F S256x512 .bf16) (v : FVec F S256x4 .f32) (v0 v1 v2 : FVec F S256x64 .f32) (f : Vec F S2x256x512 .f32) {Kt : _ → sProp 𝕄} :
    iprop(holdC m ρ c 0 0 ∗ holdC m ρ c 0 1 ∗ holdC m ρ c 0 2 ∗ holdC m ρ c 0 3 ∗ stg c cc0_stg5_0 f)
      ⊢ iprop(((holdC m ρ c 0 0 ∗ holdC m ρ c 0 1 ∗ holdC m ρ c 0 2 ∗ holdC m ρ c 0 3 ∗ stg c cc0_stg5_0 ((oM.access (rectO 0) : View sig .tc _ _ _).write (Elt F) f (k0_pay51 v373 v v0 v1 v2 (ctxHead m ρ (src 0 c) 0 3) (ctxHead m ρ (src 1 c) 0 3) (ctxHead m ρ (src 2 c) 0 3) (ctxHead m ρ (src 3 c) 0 3)) Finset.univ)) -∗ Kt ⟨⟩)
        -∗ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v7 v373 v v0 v1 v2) Kt) := by
  rw [k0_part17_eq_skeleton]; unfold k0_part17_skel
  simp only [semSignalWord, semWaitWord, Prog.lift, Prog.bind_op, Prog.bind_ret, Prog.pure_eq_ret, wp_deviceId]
  iintro ⟨HC0, HC1, HC2, HC3, HX⟩ Hk
  iapply (seeC m ρ c 0 0 3) $$ HC0; iintro HC0
  iapply (seeC m ρ c 0 1 3) $$ HC1; iintro HC1
  iapply (seeC m ρ c 0 2 3) $$ HC2; iintro HC2
  iapply (seeC m ρ c 0 3 3) $$ HC3; iintro HC3
  iapply (wp_load 𝒱₀ (c : Thread nD τ) none Set.univ (m := oM) (Finset.subset_univ _)) $$ HX; iintro HX
  iapply (wp_store 𝒱₀ (c : Thread nD τ) none Set.univ (m := oM) (r := rectO 0) (Mk := Finset.univ) (Finset.subset_univ _)) $$ HX; iintro HX
  rw [wp_ret]; imodintro
  iapply Hk
  isplitl [HC0]; · iexact HC0
  isplitl [HC1]; · iexact HC1
  isplitl [HC2]; · iexact HC2
  isplitl [HC3]; · iexact HC3
  iexact HX

/-- Batch 1: the three devices' sums of weights arrive. -/
theorem part18 (v5 v9 : BitVec 32) {Kt : _ → sProp 𝕄} :
    iprop(records m ρ K ∗ ow c 0 ∗ flight c (ixS 1 0) 1 ∗ flight c (ixS 1 1) 1 ∗ flight c (ixS 1 2) 1 ∗ holdS m ρ c 1 0)
      ⊢ iprop(((ow c 0 ∗ shut c (ixS 1 0) 1 ∗ holdS m ρ c 1 1 ∗ shut c (ixS 1 1) 1 ∗ holdS m ρ c 1 2 ∗ shut c (ixS 1 2) 1 ∗ holdS m ρ c 1 3 ∗ holdS m ρ c 1 0) -∗ Kt (k0_pay52 (rowsS (statHead m ρ (src 0 c) 1)) (rowsS (statHead m ρ (src 1 c) 1))))
        -∗ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v5 v9) Kt) := by
  rw [k0_part18_eq_skeleton]; unfold k0_part18_skel
  simp only [semSignalWord, semWaitWord, Prog.lift, Prog.bind_op, Prog.bind_ret, Prog.pure_eq_ret, wp_deviceId]
  iintro ⟨#HR, HO, HFS0, HFS1, HFS2, HS0⟩ Hk
  iapply (wait_step m ρ K c (ixS 1 0) 1 _ rfl (dst := slotS 1 1) (amt_ixS 1 0).symm) $$ [HO HFS0]
  · isplitr; · iexact HR
    isplitl [HO] <;> iassumption
  rw [recvS, show sl 0 = 1 from rfl]
  iintro ⟨HO, HZS0, HS1⟩
  iapply (wait_step m ρ K c (ixS 1 1) 1 _ rfl (dst := slotS 2 1) (amt_ixS 1 1).symm) $$ [HO HFS1]
  · isplitr; · iexact HR
    isplitl [HO] <;> iassumption
  rw [recvS, show sl 1 = 2 from rfl]
  iintro ⟨HO, HZS1, HS2⟩
  iapply (wait_step m ρ K c (ixS 1 2) 1 _ rfl (dst := slotS 3 1) (amt_ixS 1 2).symm) $$ [HO HFS2]
  · isplitr; · iexact HR
    isplitl [HO] <;> iassumption
  rw [recvS, show sl 2 = 3 from rfl]
  iintro ⟨HO, HZS2, HS3⟩
  iapply (seeS m ρ c 1 0) $$ HS0; iintro HS0
  iapply (seeS m ρ c 1 1) $$ HS1; iintro HS1
  rw [wp_ret]; imodintro
  iapply Hk
  isplitl [HO]; · iexact HO
  isplitl [HZS0]; · iexact HZS0
  isplitl [HS1]; · iexact HS1
  isplitl [HZS1]; · iexact HZS1
  isplitl [HS2]; · iexact HS2
  isplitl [HZS2]; · iexact HZS2
  isplitl [HS3]; · iexact HS3
  iexact HS0

/-- Batch 1: the sum of the weights; two devices' heads arrive. -/
theorem part19 (v5 v7 : BitVec 32) (v : FVec F S4x256 .f32) {Kt : _ → sProp 𝕄} :
    iprop(records m ρ K ∗ ow c 0 ∗ flight c (ixC 1 0) 1 ∗ flight c (ixC 1 1) 1 ∗ holdS m ρ c 1 2 ∗ holdS m ρ c 1 3)
      ⊢ iprop(((ow c 0 ∗ shut c (ixC 1 0) 1 ∗ holdC m ρ c 1 1 ∗ shut c (ixC 1 1) 1 ∗ holdC m ρ c 1 2 ∗ holdS m ρ c 1 2 ∗ holdS m ρ c 1 3) -∗ Kt (k0_pay53 v (rowsS (statHead m ρ (src 2 c) 1)) (rowsS (statHead m ρ (src 3 c) 1))))
        -∗ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v5 v7 v) Kt) := by
  rw [k0_part19_eq_skeleton]; unfold k0_part19_skel
  simp only [semSignalWord, semWaitWord, Prog.lift, Prog.bind_op, Prog.bind_ret, Prog.pure_eq_ret, wp_deviceId]
  iintro ⟨#HR, HO, HFC0, HFC1, HS2, HS3⟩ Hk
  iapply (seeS m ρ c 1 2) $$ HS2; iintro HS2
  iapply (seeS m ρ c 1 3) $$ HS3; iintro HS3
  iapply (wait_step m ρ K c (ixC 1 0) 1 _ rfl (dst := slotC 1 1) (amt_ixC 1 0).symm) $$ [HO HFC0]
  · isplitr; · iexact HR
    isplitl [HO] <;> iassumption
  rw [recvC, show sl 0 = 1 from rfl]
  iintro ⟨HO, HZC0, HC1⟩
  iapply (wait_step m ρ K c (ixC 1 1) 1 _ rfl (dst := slotC 2 1) (amt_ixC 1 1).symm) $$ [HO HFC1]
  · isplitr; · iexact HR
    isplitl [HO] <;> iassumption
  rw [recvC, show sl 1 = 2 from rfl]
  iintro ⟨HO, HZC1, HC2⟩
  rw [wp_ret]; imodintro
  iapply Hk
  isplitl [HO]; · iexact HO
  isplitl [HZC0]; · iexact HZC0
  isplitl [HC1]; · iexact HC1
  isplitl [HZC1]; · iexact HZC1
  isplitl [HC2]; · iexact HC2
  isplitl [HS2]; · iexact HS2
  iexact HS3

/-- Batch 1: the third device's heads arrive, and head 0 is combined. -/
theorem part20 (v9 : BitVec 32) (v : FVec F S256x4 .f32) {Kt : _ → sProp 𝕄} :
    iprop(records m ρ K ∗ ow c 0 ∗ flight c (ixC 1 2) 1 ∗ holdC m ρ c 1 0 ∗ holdC m ρ c 1 1 ∗ holdC m ρ c 1 2)
      ⊢ iprop(((ow c 0 ∗ shut c (ixC 1 2) 1 ∗ holdC m ρ c 1 3 ∗ holdC m ρ c 1 0 ∗ holdC m ρ c 1 1 ∗ holdC m ρ c 1 2) -∗ Kt ⟨k0_pay54 v (ctxHead m ρ (src 0 c) 1 0) (ctxHead m ρ (src 1 c) 1 0) (ctxHead m ρ (src 2 c) 1 0) (ctxHead m ρ (src 3 c) 1 0), (ctxHead m ρ (src 0 c) 1 1)⟩)
        -∗ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v9 v) Kt) := by
  rw [k0_part20_eq_skeleton]; unfold k0_part20_skel
  simp only [semSignalWord, semWaitWord, Prog.lift, Prog.bind_op, Prog.bind_ret, Prog.pure_eq_ret, wp_deviceId]
  iintro ⟨#HR, HO, HFC2, HC0, HC1, HC2⟩ Hk
  iapply (wait_step m ρ K c (ixC 1 2) 1 _ rfl (dst := slotC 3 1) (amt_ixC 1 2).symm) $$ [HO HFC2]
  · isplitr; · iexact HR
    isplitl [HO] <;> iassumption
  rw [recvC, show sl 2 = 3 from rfl]
  iintro ⟨HO, HZC2, HC3⟩
  iapply (seeC m ρ c 1 0 0) $$ HC0; iintro HC0
  iapply (seeC m ρ c 1 1 0) $$ HC1; iintro HC1
  iapply (seeC m ρ c 1 2 0) $$ HC2; iintro HC2
  iapply (seeC m ρ c 1 3 0) $$ HC3; iintro HC3
  iapply (seeC m ρ c 1 0 1) $$ HC0; iintro HC0
  rw [wp_ret]; imodintro
  iapply Hk
  isplitl [HO]; · iexact HO
  isplitl [HZC2]; · iexact HZC2
  isplitl [HC3]; · iexact HC3
  isplitl [HC0]; · iexact HC0
  isplitl [HC1]; · iexact HC1
  iexact HC2

/-- Batch 1: heads 1 and 2 are combined. -/
theorem part21 (v : FVec F S256x4 .f32) (u : Vec F S1x1x256x64 .bf16) {Kt : _ → sProp 𝕄} :
    iprop(holdC m ρ c 1 1 ∗ holdC m ρ c 1 2 ∗ holdC m ρ c 1 3 ∗ holdC m ρ c 1 0)
      ⊢ iprop(((holdC m ρ c 1 1 ∗ holdC m ρ c 1 2 ∗ holdC m ρ c 1 3 ∗ holdC m ρ c 1 0) -∗ Kt ⟨k0_pay55 v u (ctxHead m ρ (src 1 c) 1 1) (ctxHead m ρ (src 2 c) 1 1) (ctxHead m ρ (src 3 c) 1 1), k0_pay56 (ctxHead m ρ (src 0 c) 1 2) (ctxHead m ρ (src 1 c) 1 2) (ctxHead m ρ (src 2 c) 1 2) (ctxHead m ρ (src 3 c) 1 2)⟩)
        -∗ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v u) Kt) := by
  rw [k0_part21_eq_skeleton]; unfold k0_part21_skel
  simp only [semSignalWord, semWaitWord, Prog.lift, Prog.bind_op, Prog.bind_ret, Prog.pure_eq_ret, wp_deviceId]
  iintro ⟨HC1, HC2, HC3, HC0⟩ Hk
  iapply (seeC m ρ c 1 1 1) $$ HC1; iintro HC1
  iapply (seeC m ρ c 1 2 1) $$ HC2; iintro HC2
  iapply (seeC m ρ c 1 3 1) $$ HC3; iintro HC3
  iapply (seeC m ρ c 1 0 2) $$ HC0; iintro HC0
  iapply (seeC m ρ c 1 1 2) $$ HC1; iintro HC1
  iapply (seeC m ρ c 1 2 2) $$ HC2; iintro HC2
  iapply (seeC m ρ c 1 3 2) $$ HC3; iintro HC3
  rw [wp_ret]; imodintro
  iapply Hk
  isplitl [HC1]; · iexact HC1
  isplitl [HC2]; · iexact HC2
  isplitl [HC3]; · iexact HC3
  iexact HC0

/-- Batch 1: head 3 is combined, and the batch's rows of the result are stored. -/
theorem part22 (v373 : FVec F S256x512 .bf16) (v : FVec F S256x4 .f32) (v0 v1 v2 : FVec F S256x64 .f32) (f : Vec F S2x256x512 .f32) {Kt : _ → sProp 𝕄} :
    iprop(holdC m ρ c 1 0 ∗ holdC m ρ c 1 1 ∗ holdC m ρ c 1 2 ∗ holdC m ρ c 1 3 ∗ stg c cc0_stg5_0 f)
      ⊢ iprop(((holdC m ρ c 1 0 ∗ holdC m ρ c 1 1 ∗ holdC m ρ c 1 2 ∗ holdC m ρ c 1 3 ∗ stg c cc0_stg5_0 ((oM.access (rectO 1) : View sig .tc _ _ _).write (Elt F) f (k0_pay57 v373 v v0 v1 v2 (ctxHead m ρ (src 0 c) 1 3) (ctxHead m ρ (src 1 c) 1 3) (ctxHead m ρ (src 2 c) 1 3) (ctxHead m ρ (src 3 c) 1 3)) Finset.univ)) -∗ Kt ⟨⟩)
        -∗ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 v373 v v0 v1 v2) Kt) := by
  rw [k0_part22_eq_skeleton]; unfold k0_part22_skel
  simp only [semSignalWord, semWaitWord, Prog.lift, Prog.bind_op, Prog.bind_ret, Prog.pure_eq_ret, wp_deviceId]
  iintro ⟨HC0, HC1, HC2, HC3, HX⟩ Hk
  iapply (seeC m ρ c 1 0 3) $$ HC0; iintro HC0
  iapply (seeC m ρ c 1 1 3) $$ HC1; iintro HC1
  iapply (seeC m ρ c 1 2 3) $$ HC2; iintro HC2
  iapply (seeC m ρ c 1 3 3) $$ HC3; iintro HC3
  iapply (wp_load 𝒱₀ (c : Thread nD τ) none Set.univ (m := oM) (Finset.subset_univ _)) $$ HX; iintro HX
  iapply (wp_store 𝒱₀ (c : Thread nD τ) none Set.univ (m := oM) (r := rectO 1) (Mk := Finset.univ) (Finset.subset_univ _)) $$ HX; iintro HX
  rw [wp_ret]; imodintro
  iapply Hk
  isplitl [HC0]; · iexact HC0
  isplitl [HC1]; · iexact HC1
  isplitl [HC2]; · iexact HC2
  isplitl [HC3]; · iexact HC3
  iexact HX

/-- The transfers of batch 0 have been read. -/
theorem part23  {Kt : _ → sProp 𝕄} :
    iprop(records m ρ K ∗ ow c 0 ∗ flight c (ixC 0 0) 0 ∗ flight c (ixS 0 0) 0 ∗ flight c (ixC 0 1) 0 ∗ flight c (ixS 0 1) 0)
      ⊢ iprop(((ow c 0 ∗ shut c (ixC 0 0) 0 ∗ cPts c 0 0 (shr 0) (ctxBuf m ρ c 0) ∗ shut c (ixS 0 0) 0 ∗ sPts c 0 0 (shr 0) (statBuf m ρ c 0) ∗ shut c (ixC 0 1) 0 ∗ cPts c 0 0 (shr 1) (ctxBuf m ρ c 0) ∗ shut c (ixS 0 1) 0 ∗ sPts c 0 0 (shr 1) (statBuf m ρ c 0)) -∗ Kt ⟨⟩)
        -∗ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 ) Kt) := by
  rw [k0_part23_eq_skeleton]; unfold k0_part23_skel
  simp only [semSignalWord, semWaitWord, Prog.lift, Prog.bind_op, Prog.bind_ret, Prog.pure_eq_ret, wp_deviceId]
  iintro ⟨#HR, HO, HFC0, HFS0, HFC1, HFS1⟩ Hk
  iapply (wait_step m ρ K c (ixC 0 0) 0 _ rfl (dst := slotC 0 0) (amt_ixC 0 0).symm) $$ [HO HFC0]
  · isplitr; · iexact HR
    isplitl [HO] <;> iassumption
  rw [sentC]
  iintro ⟨HO, HZC0, HC0⟩
  iapply (wait_step m ρ K c (ixS 0 0) 0 _ rfl (dst := slotS 0 0) (amt_ixS 0 0).symm) $$ [HO HFS0]
  · isplitr; · iexact HR
    isplitl [HO] <;> iassumption
  rw [sentS]
  iintro ⟨HO, HZS0, HS0⟩
  iapply (wait_step m ρ K c (ixC 0 1) 0 _ rfl (dst := slotC 0 0) (amt_ixC 0 1).symm) $$ [HO HFC1]
  · isplitr; · iexact HR
    isplitl [HO] <;> iassumption
  rw [sentC]
  iintro ⟨HO, HZC1, HC1⟩
  iapply (wait_step m ρ K c (ixS 0 1) 0 _ rfl (dst := slotS 0 0) (amt_ixS 0 1).symm) $$ [HO HFS1]
  · isplitr; · iexact HR
    isplitl [HO] <;> iassumption
  rw [sentS]
  iintro ⟨HO, HZS1, HS1⟩
  rw [wp_ret]; imodintro
  iapply Hk
  isplitl [HO]; · iexact HO
  isplitl [HZC0]; · iexact HZC0
  isplitl [HC0]; · iexact HC0
  isplitl [HZS0]; · iexact HZS0
  isplitl [HS0]; · iexact HS0
  isplitl [HZC1]; · iexact HZC1
  isplitl [HC1]; · iexact HC1
  isplitl [HZS1]; · iexact HZS1
  iexact HS1

/-- The last of batch 0, the first of batch 1. -/
theorem part24  {Kt : _ → sProp 𝕄} :
    iprop(records m ρ K ∗ ow c 0 ∗ flight c (ixC 0 2) 0 ∗ flight c (ixS 0 2) 0 ∗ flight c (ixC 1 0) 0)
      ⊢ iprop(((ow c 0 ∗ shut c (ixC 0 2) 0 ∗ cPts c 0 0 (shr 2) (ctxBuf m ρ c 0) ∗ shut c (ixS 0 2) 0 ∗ sPts c 0 0 (shr 2) (statBuf m ρ c 0) ∗ shut c (ixC 1 0) 0 ∗ cPts c 0 1 (shr 0) (ctxBuf m ρ c 1)) -∗ Kt ⟨⟩)
        -∗ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 ) Kt) := by
  rw [k0_part24_eq_skeleton]; unfold k0_part24_skel
  simp only [semSignalWord, semWaitWord, Prog.lift, Prog.bind_op, Prog.bind_ret, Prog.pure_eq_ret, wp_deviceId]
  iintro ⟨#HR, HO, HFC2, HFS2, HFC0⟩ Hk
  iapply (wait_step m ρ K c (ixC 0 2) 0 _ rfl (dst := slotC 0 0) (amt_ixC 0 2).symm) $$ [HO HFC2]
  · isplitr; · iexact HR
    isplitl [HO] <;> iassumption
  rw [sentC]
  iintro ⟨HO, HZC2, HC2⟩
  iapply (wait_step m ρ K c (ixS 0 2) 0 _ rfl (dst := slotS 0 0) (amt_ixS 0 2).symm) $$ [HO HFS2]
  · isplitr; · iexact HR
    isplitl [HO] <;> iassumption
  rw [sentS]
  iintro ⟨HO, HZS2, HS2⟩
  iapply (wait_step m ρ K c (ixC 1 0) 0 _ rfl (dst := slotC 0 1) (amt_ixC 1 0).symm) $$ [HO HFC0]
  · isplitr; · iexact HR
    isplitl [HO] <;> iassumption
  rw [sentC]
  iintro ⟨HO, HZC0, HC0⟩
  rw [wp_ret]; imodintro
  iapply Hk
  isplitl [HO]; · iexact HO
  isplitl [HZC2]; · iexact HZC2
  isplitl [HC2]; · iexact HC2
  isplitl [HZS2]; · iexact HZS2
  isplitl [HS2]; · iexact HS2
  isplitl [HZC0]; · iexact HZC0
  iexact HC0

/-- Three more of batch 1. -/
theorem part25  {Kt : _ → sProp 𝕄} :
    iprop(records m ρ K ∗ ow c 0 ∗ flight c (ixS 1 0) 0 ∗ flight c (ixC 1 1) 0 ∗ flight c (ixS 1 1) 0)
      ⊢ iprop(((ow c 0 ∗ shut c (ixS 1 0) 0 ∗ sPts c 0 1 (shr 0) (statBuf m ρ c 1) ∗ shut c (ixC 1 1) 0 ∗ cPts c 0 1 (shr 1) (ctxBuf m ρ c 1) ∗ shut c (ixS 1 1) 0 ∗ sPts c 0 1 (shr 1) (statBuf m ρ c 1)) -∗ Kt ⟨⟩)
        -∗ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 ) Kt) := by
  rw [k0_part25_eq_skeleton]; unfold k0_part25_skel
  simp only [semSignalWord, semWaitWord, Prog.lift, Prog.bind_op, Prog.bind_ret, Prog.pure_eq_ret, wp_deviceId]
  iintro ⟨#HR, HO, HFS0, HFC1, HFS1⟩ Hk
  iapply (wait_step m ρ K c (ixS 1 0) 0 _ rfl (dst := slotS 0 1) (amt_ixS 1 0).symm) $$ [HO HFS0]
  · isplitr; · iexact HR
    isplitl [HO] <;> iassumption
  rw [sentS]
  iintro ⟨HO, HZS0, HS0⟩
  iapply (wait_step m ρ K c (ixC 1 1) 0 _ rfl (dst := slotC 0 1) (amt_ixC 1 1).symm) $$ [HO HFC1]
  · isplitr; · iexact HR
    isplitl [HO] <;> iassumption
  rw [sentC]
  iintro ⟨HO, HZC1, HC1⟩
  iapply (wait_step m ρ K c (ixS 1 1) 0 _ rfl (dst := slotS 0 1) (amt_ixS 1 1).symm) $$ [HO HFS1]
  · isplitr; · iexact HR
    isplitl [HO] <;> iassumption
  rw [sentS]
  iintro ⟨HO, HZS1, HS1⟩
  rw [wp_ret]; imodintro
  iapply Hk
  isplitl [HO]; · iexact HO
  isplitl [HZS0]; · iexact HZS0
  isplitl [HS0]; · iexact HS0
  isplitl [HZC1]; · iexact HZC1
  isplitl [HC1]; · iexact HC1
  isplitl [HZS1]; · iexact HZS1
  iexact HS1

end Parts

end Cert.KernelIdealProof

end
-- ==== Proof.Body.lean ====
/-
The whole body on a device `c`: from its share of the protocol's start to every transfer waited for, the heads of all four
devices in its slots and its result complete.
-/
module

public import proofs.«01_k».proof.Proof.Gather

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Body

variable (K : Dev nD × CK → ℕ) (c : Dev nD)

/-- The twelve transfers in the order of their numbers. -/
def ixs : List (Fin 12) := [ixC 0 0, ixC 0 1, ixC 0 2, ixC 1 0, ixC 1 1, ixC 1 2, ixS 0 0, ixS 0 1, ixS 0 2, ixS 1 0, ixS 1 1, ixS 1 2]
/-- A family over them, conjoined one by one. -/
def each (Φ : Fin 12 → sProp 𝕄) : sProp 𝕄 :=
  iprop(Φ (ixC 0 0) ∗ Φ (ixC 0 1) ∗ Φ (ixC 0 2) ∗ Φ (ixC 1 0) ∗ Φ (ixC 1 1) ∗ Φ (ixC 1 2) ∗ Φ (ixS 0 0) ∗ Φ (ixS 0 1) ∗ Φ (ixS 0 2) ∗ Φ (ixS 1 0) ∗ Φ (ixS 1 1) ∗ Φ (ixS 1 2))
omit [FloatOps F] [Named F] in
theorem bigSep_ix (Φ : Fin 12 → sProp 𝕄) : bigSep Finset.univ Φ = each Φ := bigSep_univ_eq_bigSepL ixs (by decide) (by decide) Φ

/-- What of the protocol device `c` starts with, besides the records. -/
def parts0 : sProp 𝕄 :=
  iprop(ow c (owedBar c 0) ∗ levAts L lv ∗ atPos ER (barCell c) 0 ∅ 0 ∗ cred (tallyAt (barCell c) () 3)
    ∗ (dutyTok ER (barCell (sdr 0 c)) 0 0 ∗ dutyTok ER (barCell (sdr 1 c)) 0 1 ∗ dutyTok ER (barCell (sdr 2 c)) 0 2)
    ∗ (each fun i => pend c i) ∗ each fun i => flight c i 1)
/-- Its own slots and its landing slots, at any contents. -/
def slots0 : sProp 𝕄 :=
  iprop((landing c 0 0 ∗ landing c 0 1 ∗ landing c 1 0 ∗ landing c 1 1 ∗ landing c 2 0 ∗ landing c 2 1)
    ∗ (∃ f, cPts c 0 0 fullShare f) ∗ (∃ f, sPts c 0 0 fullShare f) ∗ (∃ f, cPts c 0 1 fullShare f) ∗ ∃ f, sPts c 0 1 fullShare f)
/-- The operands. -/
def operands : sProp 𝕄 :=
  iprop(stg c cc0_stg0_0 (xstg m ρ c) ∗ stg c cc0_stg1_0 (wqstg m ρ c) ∗ stg c cc0_stg2_0 (kstg m ρ c) ∗ stg c cc0_stg3_0 (vstg m ρ c)
    ∗ stg c cc0_stg4_0 (wostg m ρ c))
/-- What it ends with: every semaphore at zero, and every slot whole. -/
def parts1 : sProp 𝕄 :=
  iprop(ow c 0 ∗ semVal (barCell c) 0 ∗ (each fun i => shut c i 0) ∗ each fun i => shut c i 1)
def slots1 (b : Fin 2) : sProp 𝕄 :=
  iprop((cPts c 0 b fullShare (ctxBuf m ρ c b) ∗ holdC m ρ c b 1 ∗ holdC m ρ c b 2 ∗ holdC m ρ c b 3)
    ∗ sPts c 0 b fullShare (statBuf m ρ c b) ∗ holdS m ρ c b 1 ∗ holdS m ρ c b 2 ∗ holdS m ρ c b 3)

/-- The four heads stored, an own slot splits into the transfers' shares and the loads'. -/
theorem doneC (b : Fin 2) (f : S4x2x256x256.Idx → Elt F .bf16) :
    cPts c 0 b fullShare (stores4C 0 b f (ctxHead m ρ c b 0) (ctxHead m ρ c b 1) (ctxHead m ρ c b 2) (ctxHead m ρ c b 3))
      ⊢ iprop((cPts c 0 b (shr 0) (ctxBuf m ρ c b) ∗ cPts c 0 b (shr 1) (ctxBuf m ρ c b)) ∗ (cPts c 0 b (shr 2) (ctxBuf m ρ c b) ∗ cPts c 0 b shK (ctxBuf m ρ c b))) :=
  (Entails.of_eq (cPts_congr c 0 b fullShare (stores4C_eq 0 b f (ctxHead m ρ c b)))).trans (cPts_shares c 0 b (ctxBuf m ρ c b)).1

/-- What stays of an own slot is what its loads go through; with the transfers' shares back, the slot is whole. -/
theorem keepC (b : Fin 2) : cPts c 0 b shK (ctxBuf m ρ c b) = holdC m ρ c b 0 := by
  unfold holdC; rw [src_zero, shH, if_pos rfl]
theorem keepS (b : Fin 2) : sPts c 0 b shK (statBuf m ρ c b) = holdS m ρ c b 0 := by
  unfold holdS; rw [src_zero, shH, if_pos rfl]
theorem rejoinC (b : Fin 2) :
    iprop(holdC m ρ c b 0 ∗ cPts c 0 b (shr 0) (ctxBuf m ρ c b) ∗ cPts c 0 b (shr 1) (ctxBuf m ρ c b) ∗ cPts c 0 b (shr 2) (ctxBuf m ρ c b))
      ⊢ cPts c 0 b fullShare (ctxBuf m ρ c b) := by
  rw [← keepC]
  iintro ⟨HK, H0, H1, H2⟩
  iapply (cPts_shares c 0 b (ctxBuf m ρ c b)).2
  isplitl [H0 H1]; · isplitl [H0] <;> iassumption
  isplitl [H2] <;> iassumption
theorem rejoinS (b : Fin 2) :
    iprop(holdS m ρ c b 0 ∗ sPts c 0 b (shr 0) (statBuf m ρ c b) ∗ sPts c 0 b (shr 1) (statBuf m ρ c b) ∗ sPts c 0 b (shr 2) (statBuf m ρ c b))
      ⊢ sPts c 0 b fullShare (statBuf m ρ c b) := by
  rw [← keepS]
  iintro ⟨HK, H0, H1, H2⟩
  iapply (sPts_shares c 0 b (statBuf m ρ c b)).2
  isplitl [H0 H1]; · isplitl [H0] <;> iassumption
  isplitl [H2] <;> iassumption

set_option maxHeartbeats 1600000 in
/-- The body, part by part. -/
theorem body_run {Kt : PUnit → sProp 𝕄} :
    iprop(records m ρ K ∗ parts0 c ∗ slots0 (F := F) c ∗ operands m ρ c ∗ ∃ f, stg c cc0_stg5_0 f)
      ⊢ iprop(((parts1 c ∗ slots1 m ρ c 0 ∗ slots1 m ρ c 1 ∗ operands m ρ c ∗ stg c cc0_stg5_0 (outAt m ρ c)) -∗ Kt ⟨⟩)
        -∗ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3) Kt) := by
  rw [cc0_body_eq_skeleton]; unfold cc0_body_skel
  unfold parts0 slots0 operands each
  iintro ⟨#HR, ⟨HO, #Hlev, HaB, HcB, ⟨Ht0, Ht1, Ht2⟩, HP, HF⟩, ⟨⟨HL00, HL01, HL10, HL11, HL20, HL21⟩, ⟨%fC0, HC0⟩, ⟨%fS0, HS0⟩, ⟨%fC1, HC1⟩, ⟨%fS1, HS1⟩⟩, ⟨HX, HQ, HK, HV, HW⟩, ⟨%fO, HY⟩⟩ Hk
  icases HP with ⟨PC00, PC01, PC02, PC10, PC11, PC12, PS00, PS01, PS02, PS10, PS11, PS12⟩
  icases HF with ⟨RC00, RC01, RC02, RC10, RC11, RC12, RS00, RS01, RS02, RS10, RS11, RS12⟩
  rw [wp_bind]
  iapply (part1 m ρ K c) $$ [HO Ht0 Ht1 Ht2 HL00 HL01 HL10 HL11 HL20 HL21]
  · isplitr; · iexact HR
    isplitl [HO]; · iexact HO
    isplitl [Ht0 HL00 HL01]
    · isplitl [Ht0]; · iexact Ht0
      isplitl [HL00] <;> iassumption
    isplitl [Ht1 HL10 HL11]
    · isplitl [Ht1]; · iexact Ht1
      isplitl [HL10] <;> iassumption
    isplitl [Ht2]; · iexact Ht2
    isplitl [HL20] <;> iassumption
  iintro HO
  dsimp only
  rw [wp_bind]
  iapply (part2 c (wqstg m ρ c)) $$ HQ; iintro HQ
  dsimp only
  rw [wp_bind]
  iapply (part3 c (xstg m ρ c) (kstg m ρ c) (vstg m ρ c) fC0 fS0) $$ [HX HK HV HC0 HS0]
  · isplitl [HX]; · iexact HX
    isplitl [HK]; · iexact HK
    isplitl [HV]; · iexact HV
    isplitl [HC0] <;> iassumption
  iintro ⟨HX, HK, HV, HC0, HS0⟩
  dsimp only
  rw [wp_bind]
  iapply (part4 c) $$ [HC0 HS0]
  · isplitl [HC0] <;> iassumption
  iintro ⟨HC0, HS0⟩
  rw [wp_bind]
  iapply (part5 m ρ K c (hS := stores4S_eq 0 0 fS0 (statHead m ρ c 0))) $$ [HO HaB HcB HC0 HS0 PS00]
  · isplitr; · iexact HR
    isplitl [HO HaB HcB]
    · isplitl [HO]; · iexact HO
      isplitr; · iexact Hlev
      isplitl [HaB] <;> iassumption
    isplitl [HC0]; · iexact HC0
    isplitl [HS0]; · iexact HS0
    iexact PS00
  iintro ⟨HO, Hz, HL0, HB1, HB2, HC0, FS00, S01, S02, SK0⟩
  ihave HC0 := (doneC m ρ c 0 fC0) $$ [HC0]
  · iexact HC0
  icases HC0 with ⟨⟨C00, C01⟩, C02, CK0⟩
  unfold barPay landing
  icases HL0 with ⟨DC00, DC10, DS10⟩
  icases HB1 with ⟨⟨DC01, DS01⟩, DC11, DS11⟩
  icases HB2 with ⟨⟨DC02, DS02⟩, DC12, DS12⟩
  rw [wp_bind]
  iapply (part6 m ρ K c) $$ [HO PC00 C00 DC00 PS01 S01 DS01]
  · isplitr; · iexact HR
    isplitl [HO]; · iexact HO
    isplitl [PC00 C00 DC00]
    · isplitl [PC00]; · iexact PC00
      isplitl [C00]; · iexact C00
      iexact DC00
    isplitl [PS01]; · iexact PS01
    isplitl [S01]; · iexact S01
    iexact DS01
  iintro ⟨HO, FC00, FS01⟩
  rw [wp_bind]
  iapply (part7 m ρ K c (KK := kstg m ρ c)) $$ [HO HK PC01 C01 DC01 PS02 S02 DS02 PC02 C02 DC02]
  · isplitr; · iexact HR
    isplitl [HO]; · iexact HO
    isplitl [HK]; · iexact HK
    isplitl [PC01 C01 DC01]
    · isplitl [PC01]; · iexact PC01
      isplitl [C01]; · iexact C01
      iexact DC01
    isplitl [PS02 S02 DS02]
    · isplitl [PS02]; · iexact PS02
      isplitl [S02]; · iexact S02
      iexact DS02
    isplitl [PC02]; · iexact PC02
    isplitl [C02]; · iexact C02
    iexact DC02
  iintro ⟨HO, HK, FC01, FS02, FC02⟩
  dsimp only
  rw [wp_bind]
  iapply (part8 c fC1 fS1 (VV := vstg m ρ c)) $$ [HV HC1 HS1]
  · isplitl [HV]; · iexact HV
    isplitl [HC1]; · iexact HC1
    iexact HS1
  iintro ⟨HV, HC1, HS1⟩
  dsimp only
  rw [wp_bind]
  iapply (part9 c) $$ [HC1 HS1]
  · isplitl [HC1]; · iexact HC1
    iexact HS1
  iintro ⟨HC1, HS1⟩
  dsimp only
  rw [wp_bind]
  iapply (part10 m ρ K c (v299 := k0_pay40 bias (k0_pay24 (k0_pay6 (k0_pay5 (wqstg m ρ c)) (xstg m ρ c))) (k0_pay26 (k0_pay25 (kvB (kstg m ρ c) 1))))
    (hS := stores4S_eq 0 1 fS1 (statHead m ρ c 1))) $$ [HO HC1 HS1 PS10 DS10]
  · isplitr; · iexact HR
    isplitl [HO]; · iexact HO
    isplitl [HC1]; · iexact HC1
    isplitl [HS1]; · iexact HS1
    isplitl [PS10]; · iexact PS10
    iexact DS10
  iintro ⟨HO, HC1, FS10, S11, S12, SK1⟩
  ihave HC1 := (doneC m ρ c 1 fC1) $$ [HC1]
  · iexact HC1
  icases HC1 with ⟨⟨C10, C11⟩, C12, CK1⟩
  rw [wp_bind]
  iapply (part11 m ρ K c) $$ [HO PC10 C10 DC10 PS11 S11 DS11 PC11 C11 DC11]
  · isplitr; · iexact HR
    isplitl [HO]; · iexact HO
    isplitl [PC10 C10 DC10]
    · isplitl [PC10]; · iexact PC10
      isplitl [C10]; · iexact C10
      iexact DC10
    isplitl [PS11 S11 DS11]
    · isplitl [PS11]; · iexact PS11
      isplitl [S11]; · iexact S11
      iexact DS11
    isplitl [PC11]; · iexact PC11
    isplitl [C11]; · iexact C11
    iexact DC11
  iintro ⟨HO, FC10, FS11, FC11⟩
  rw [wp_bind]
  iapply (part12 m ρ K c (WO := wostg m ρ c)) $$ [HO HW PS12 S12 DS12 PC12 C12 DC12]
  · isplitr; · iexact HR
    isplitl [HO]; · iexact HO
    isplitl [HW]; · iexact HW
    isplitl [PS12 S12 DS12]
    · isplitl [PS12]; · iexact PS12
      isplitl [S12]; · iexact S12
      iexact DS12
    isplitl [PC12]; · iexact PC12
    isplitl [C12]; · iexact C12
    iexact DC12
  iintro ⟨HO, HW, FS12, FC12⟩
  rw [show owedFrom c 12 = 0 from rfl]
  ihave C00 := (Entails.of_eq (keepC m ρ c 0)) $$ CK0
  ihave C10 := (Entails.of_eq (keepC m ρ c 1)) $$ CK1
  ihave S00 := (Entails.of_eq (keepS m ρ c 0)) $$ SK0
  ihave S10 := (Entails.of_eq (keepS m ρ c 1)) $$ SK1
  rw [wp_bind]
  iapply (part13 m ρ K c) $$ [HO RS00 RS01 RS02 S00]
  · isplitr; · iexact HR
    isplitl [HO]; · iexact HO
    isplitl [RS00]; · iexact RS00
    isplitl [RS01]; · iexact RS01
    isplitl [RS02]; · iexact RS02
    iexact S00
  iintro ⟨HO, ZS00, S01, ZS01, S02, ZS02, S03, S00⟩
  rw [wp_bind]
  iapply (part14 m ρ K c) $$ [HO RC00 RC01 S02 S03]
  · isplitr; · iexact HR
    isplitl [HO]; · iexact HO
    isplitl [RC00]; · iexact RC00
    isplitl [RC01]; · iexact RC01
    isplitl [S02]; · iexact S02
    iexact S03
  iintro ⟨HO, ZC00, C01, ZC01, C02, S02, S03⟩
  rw [wp_bind]
  iapply (part15 m ρ K c) $$ [HO RC02 C00 C01 C02]
  · isplitr; · iexact HR
    isplitl [HO]; · iexact HO
    isplitl [RC02]; · iexact RC02
    isplitl [C00]; · iexact C00
    isplitl [C01]; · iexact C01
    iexact C02
  iintro ⟨HO, ZC02, C03, C00, C01, C02⟩
  dsimp only
  rw [wp_bind]
  iapply (part16 m ρ c) $$ [C01 C02 C03 C00]
  · isplitl [C01]; · iexact C01
    isplitl [C02]; · iexact C02
    isplitl [C03]; · iexact C03
    iexact C00
  iintro ⟨C01, C02, C03, C00⟩
  dsimp only
  rw [wp_bind]
  iapply (part17 m ρ c) $$ [C00 C01 C02 C03 HY]
  · isplitl [C00]; · iexact C00
    isplitl [C01]; · iexact C01
    isplitl [C02]; · iexact C02
    isplitl [C03]; · iexact C03
    iexact HY
  iintro ⟨C00, C01, C02, C03, HY⟩
  rw [wp_bind]
  iapply (part18 m ρ K c) $$ [HO RS10 RS11 RS12 S10]
  · isplitr; · iexact HR
    isplitl [HO]; · iexact HO
    isplitl [RS10]; · iexact RS10
    isplitl [RS11]; · iexact RS11
    isplitl [RS12]; · iexact RS12
    iexact S10
  iintro ⟨HO, ZS10, S11, ZS11, S12, ZS12, S13, S10⟩
  rw [wp_bind]
  iapply (part19 m ρ K c) $$ [HO RC10 RC11 S12 S13]
  · isplitr; · iexact HR
    isplitl [HO]; · iexact HO
    isplitl [RC10]; · iexact RC10
    isplitl [RC11]; · iexact RC11
    isplitl [S12]; · iexact S12
    iexact S13
  iintro ⟨HO, ZC10, C11, ZC11, C12, S12, S13⟩
  rw [wp_bind]
  iapply (part20 m ρ K c) $$ [HO RC12 C10 C11 C12]
  · isplitr; · iexact HR
    isplitl [HO]; · iexact HO
    isplitl [RC12]; · iexact RC12
    isplitl [C10]; · iexact C10
    isplitl [C11]; · iexact C11
    iexact C12
  iintro ⟨HO, ZC12, C13, C10, C11, C12⟩
  dsimp only
  rw [wp_bind]
  iapply (part21 m ρ c) $$ [C11 C12 C13 C10]
  · isplitl [C11]; · iexact C11
    isplitl [C12]; · iexact C12
    isplitl [C13]; · iexact C13
    iexact C10
  iintro ⟨C11, C12, C13, C10⟩
  dsimp only
  rw [wp_bind]
  iapply (part22 m ρ c) $$ [C10 C11 C12 C13 HY]
  · isplitl [C10]; · iexact C10
    isplitl [C11]; · iexact C11
    isplitl [C12]; · iexact C12
    isplitl [C13]; · iexact C13
    iexact HY
  iintro ⟨C10, C11, C12, C13, HY⟩
  rw [wp_bind]
  iapply (part23 m ρ K c) $$ [HO FC00 FS00 FC01 FS01]
  · isplitr; · iexact HR
    isplitl [HO]; · iexact HO
    isplitl [FC00]; · iexact FC00
    isplitl [FS00]; · iexact FS00
    isplitl [FC01]; · iexact FC01
    iexact FS01
  iintro ⟨HO, YC00, BC00, YS00, BS00, YC01, BC01, YS01, BS01⟩
  rw [wp_bind]
  iapply (part24 m ρ K c) $$ [HO FC02 FS02 FC10]
  · isplitr; · iexact HR
    isplitl [HO]; · iexact HO
    isplitl [FC02]; · iexact FC02
    isplitl [FS02]; · iexact FS02
    iexact FC10
  iintro ⟨HO, YC02, BC02, YS02, BS02, YC10, BC10⟩
  rw [wp_bind]
  iapply (part25 m ρ K c) $$ [HO FS10 FC11 FS11]
  · isplitr; · iexact HR
    isplitl [HO]; · iexact HO
    isplitl [FS10]; · iexact FS10
    isplitl [FC11]; · iexact FC11
    iexact FS11
  iintro ⟨HO, YS10, BS10, YC11, BC11, YS11, BS11⟩
  simp only [Prog.lift, Prog.bind_op, Prog.bind_ret, Prog.pure_eq_ret]
  iapply (wait_step m ρ K c (ixC 1 2) 0 _ rfl (dst := slotC 0 1) (amt_ixC 1 2).symm) $$ [HO FC12]
  · isplitr; · iexact HR
    isplitl [HO] <;> iassumption
  rw [sentC]
  iintro ⟨HO, YC12, BC12⟩
  iapply (wait_step m ρ K c (ixS 1 2) 0 _ rfl (dst := slotS 0 1) (amt_ixS 1 2).symm) $$ [HO FS12]
  · isplitr; · iexact HR
    isplitl [HO] <;> iassumption
  rw [sentS]
  iintro ⟨HO, YS12, BS12⟩
  ihave C00 := (rejoinC m ρ c 0) $$ [BC00 BC01 BC02 C00]
  · isplitl [C00]; · iexact C00
    isplitl [BC00]; · iexact BC00
    isplitl [BC01]; · iexact BC01
    iexact BC02
  ihave S00 := (rejoinS m ρ c 0) $$ [BS00 BS01 BS02 S00]
  · isplitl [S00]; · iexact S00
    isplitl [BS00]; · iexact BS00
    isplitl [BS01]; · iexact BS01
    iexact BS02
  ihave C10 := (rejoinC m ρ c 1) $$ [BC10 BC11 BC12 C10]
  · isplitl [C10]; · iexact C10
    isplitl [BC10]; · iexact BC10
    isplitl [BC11]; · iexact BC11
    iexact BC12
  ihave S10 := (rejoinS m ρ c 1) $$ [BS10 BS11 BS12 S10]
  · isplitl [S10]; · iexact S10
    isplitl [BS10]; · iexact BS10
    isplitl [BS11]; · iexact BS11
    iexact BS12
  rw [wp_ret]; imodintro
  iapply Hk
  unfold parts1 slots1 each
  isplitl [HO Hz YC00 YC01 YC02 YC10 YC11 YC12 YS00 YS01 YS02 YS10 YS11 YS12 ZC00 ZC01 ZC02 ZC10 ZC11 ZC12 ZS00 ZS01 ZS02 ZS10 ZS11 ZS12]
  · isplitl [HO]; · iexact HO
    isplitl [Hz]; · iexact Hz
    isplitl [YC00 YC01 YC02 YC10 YC11 YC12 YS00 YS01 YS02 YS10 YS11 YS12]
    · isplitl [YC00]; · iexact YC00
      isplitl [YC01]; · iexact YC01
      isplitl [YC02]; · iexact YC02
      isplitl [YC10]; · iexact YC10
      isplitl [YC11]; · iexact YC11
      isplitl [YC12]; · iexact YC12
      isplitl [YS00]; · iexact YS00
      isplitl [YS01]; · iexact YS01
      isplitl [YS02]; · iexact YS02
      isplitl [YS10]; · iexact YS10
      isplitl [YS11]; · iexact YS11
      iexact YS12
    isplitl [ZC00]; · iexact ZC00
    isplitl [ZC01]; · iexact ZC01
    isplitl [ZC02]; · iexact ZC02
    isplitl [ZC10]; · iexact ZC10
    isplitl [ZC11]; · iexact ZC11
    isplitl [ZC12]; · iexact ZC12
    isplitl [ZS00]; · iexact ZS00
    isplitl [ZS01]; · iexact ZS01
    isplitl [ZS02]; · iexact ZS02
    isplitl [ZS10]; · iexact ZS10
    isplitl [ZS11]; · iexact ZS11
    iexact ZS12
  isplitl [C00 C01 C02 C03 S00 S01 S02 S03]
  · isplitl [C00 C01 C02 C03]
    · isplitl [C00]; · iexact C00
      isplitl [C01]; · iexact C01
      isplitl [C02]; · iexact C02
      iexact C03
    isplitl [S00]; · iexact S00
    isplitl [S01]; · iexact S01
    isplitl [S02]; · iexact S02
    iexact S03
  isplitl [C10 C11 C12 C13 S10 S11 S12 S13]
  · isplitl [C10 C11 C12 C13]
    · isplitl [C10]; · iexact C10
      isplitl [C11]; · iexact C11
      isplitl [C12]; · iexact C12
      iexact C13
    isplitl [S10]; · iexact S10
    isplitl [S11]; · iexact S11
    isplitl [S12]; · iexact S12
    iexact S13
  isplitl [HX HQ HK HV HW]
  · isplitl [HX]; · iexact HX
    isplitl [HQ]; · iexact HQ
    isplitl [HK]; · iexact HK
    isplitl [HV]; · iexact HV
    iexact HW
  ihave HY := (Entails.of_eq (congrArg (stg c cc0_stg5_0) (stores2O fO (outB m ρ c)))) $$ [HY]
  · iexact HY
  iexact HY

end Body

end Cert.KernelIdealProof

end
-- ==== Proof.Point.lean ====
/-
The pipeline's data for the one grid point, and its obligation: what the body finds, and what it leaves.
-/
module

public import proofs.«01_k».proof.Proof.Body
public import Idealize.ShloMosaic.Lib.Ring

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The protocol's ghost state that a device starts from: the records, its barrier's position, the tokens it pays the
    barriers with, and each transfer's beginning on its two ends. -/
def ghost (K : Dev nD × CK → ℕ) (c : Dev nD) : sProp 𝕄 :=
  iprop(records m ρ K ∗ atPos ER (barCell c) 0 ∅ 0 ∗ (bigSep Finset.univ fun j : Fin 3 => dutyTok ER (barCell (sdr j c)) 0 j)
    ∗ (bigSep Finset.univ fun i => pend c i) ∗ bigSep Finset.univ fun i => atPos ER (dCell c i 1) 0 ∅ 0)
/-- That at some names, the credits for its barrier and its receive semaphores, and the levels. -/
def start (c : Dev nD) : sProp 𝕄 :=
  iprop((∃ K, ghost m ρ K c) ∗ (cred (tallyAt (barCell c) () 3) ∗ bigSep Finset.univ fun i => cred (tallyAt (dCell c i 1) () (amt i))) ∗ levAts L lv)
/-- The two scratch buffers, at any contents. -/
def scratch (c : Dev nD) : sProp 𝕄 := iprop((∃ f, stg c cc0_scratch0 f) ∗ ∃ f, stg c cc0_scratch1 f)
def Φ₀ (c : Dev nD) : sProp 𝕄 := iprop(start m ρ c ∗ scratch (F := F) c)
/-- At the end every semaphore is at zero again. -/
def Φ₁ (c : Dev nD) : sProp 𝕄 :=
  iprop(semVal (barCell c) 0 ∗ ((bigSep Finset.univ fun i => shut c i 0) ∗ bigSep Finset.univ fun i => shut c i 1) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => owedBar c 0
    | ⟨_ + 1, _⟩ => 0

theorem fetch_in (w : Fin cfg0.W) (hw : w ≠ (5 : Fin 6)) (t : Fin cfg0.N) : (cfg0.win w).fetch t = true := by
  rw [fin_N t]; revert w; decide

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
  have h₁ : iprop(∃ f : Buf (Elt F) ((c : Thread nD τ).loc b), ⌜f = X⌝ ∗ ((c : Thread nD τ).loc b) ↦{fullShare} f) ⊢ (stg c b X : sProp 𝕄) := by
    iintro ⟨%f, %h, H⟩; subst h; iexact H
  have h₂ : (stg c b X : sProp 𝕄) ⊢ iprop(∃ f : Buf (Elt F) ((c : Thread nD τ).loc b), ⌜f = X⌝ ∗ ((c : Thread nD τ).loc b) ↦{fullShare} f) := by
    iintro H; iexists X; isplitr; · ipureintro; rfl
    iexact H
  exact equiv_iff.mp ⟨h₁, h₂⟩

/-! ## The slots, cut out of the scratch buffers and joined again -/

section Slots
variable (c : Dev nD)

/-- The slots one by one. -/
def eachSlot (Φ : Fin 4 × Fin 2 → sProp 𝕄) : sProp 𝕄 :=
  iprop(Φ (0, 0) ∗ Φ (0, 1) ∗ Φ (1, 0) ∗ Φ (1, 1) ∗ Φ (2, 0) ∗ Φ (2, 1) ∗ Φ (3, 0) ∗ Φ (3, 1))
omit [FloatOps F] [Named F] in
theorem bigSep_slot (Φ : Fin 4 × Fin 2 → sProp 𝕄) : bigSep Finset.univ Φ = eachSlot Φ :=
  bigSep_univ_eq_bigSepL [(0, 0), (0, 1), (1, 0), (1, 1), (2, 0), (2, 1), (3, 0), (3, 1)] (by decide) (by decide) Φ

/-- The slots as parts of the buffers' index sets. -/
abbrev partC (k : Fin 4 × Fin 2) : Finset (Idx ((c : Thread nD τ).loc cc0_scratch0)) := setC k.1 k.2
abbrev partS (k : Fin 4 × Fin 2) : Finset (Idx ((c : Thread nD τ).loc cc0_scratch1)) := setS k.1 k.2
theorem allC : Finset.univ.biUnion (partC c) = Finset.univ := by
  ext p; exact iff_of_true (Finset.mem_biUnion.mpr ⟨(⟨(p 0).val, (p 0).isLt⟩, ⟨(p 1).val, (p 1).isLt⟩), Finset.mem_univ _, mem_setC.mpr ⟨rfl, rfl⟩⟩) (Finset.mem_univ _)
theorem allS : Finset.univ.biUnion (partS c) = Finset.univ := by
  ext p; exact iff_of_true (Finset.mem_biUnion.mpr ⟨(⟨(p 0).val, (p 0).isLt⟩, ⟨(p 1).val, (p 1).isLt⟩), Finset.mem_univ _, mem_setS.mpr ⟨rfl, rfl⟩⟩) (Finset.mem_univ _)

omit [FloatOps F] [Named F] in
theorem anyC (s b f) : cPts (F := F) c s b fullShare f ⊢ iprop(∃ f, cPts c s b fullShare f) := by iintro H; iexists f; iexact H
omit [FloatOps F] [Named F] in
theorem cutC (f) : stg (F := F) c cc0_scratch0 f ⊢ eachSlot fun k => iprop(∃ f, cPts c k.1 k.2 fullShare f) := by
  rw [← bigSep_slot]
  refine (Entails.of_eq (Ring.pointsTo_blocks (partC c) disjC (allC c) f)).trans (bigSep_mono fun k _ => anyC c k.1 k.2 f)
omit [FloatOps F] [Named F] in
theorem anyS (s b f) : sPts (F := F) c s b fullShare f ⊢ iprop(∃ f, sPts c s b fullShare f) := by iintro H; iexists f; iexact H
omit [FloatOps F] [Named F] in
theorem cutS (f) : stg (F := F) c cc0_scratch1 f ⊢ eachSlot fun k => iprop(∃ f, sPts c k.1 k.2 fullShare f) := by
  rw [← bigSep_slot]
  refine (Entails.of_eq (Ring.pointsTo_blocks (partS c) disjS (allS c) f)).trans (bigSep_mono fun k _ => anyS c k.1 k.2 f)
omit [FloatOps F] [Named F] in
theorem joinC (f₀ : Buf (Elt F) ((c : Thread nD τ).loc cc0_scratch0)) :
    (eachSlot fun k => iprop(∃ f, cPts (F := F) c k.1 k.2 fullShare f)) ⊢ ∃ f, stg (F := F) c cc0_scratch0 f := by
  rw [← bigSep_slot]
  exact Ring.pointsTo_blocks_join_exists (partC c) disjC (allC c) f₀
omit [FloatOps F] [Named F] in
theorem joinS (f₀ : Buf (Elt F) ((c : Thread nD τ).loc cc0_scratch1)) :
    (eachSlot fun k => iprop(∃ f, sPts (F := F) c k.1 k.2 fullShare f)) ⊢ ∃ f, stg (F := F) c cc0_scratch1 f := by
  rw [← bigSep_slot]
  exact Ring.pointsTo_blocks_join_exists (partS c) disjS (allS c) f₀

omit [FloatOps F] [Named F] in
/-- The scratch buffers are the slots that the body starts from, -/
theorem scratch_cut : scratch (F := F) c ⊢ slots0 (F := F) c := by
  unfold scratch slots0 landing
  iintro ⟨⟨%f, HC⟩, ⟨%g, HS⟩⟩
  ihave HC := (cutC c f) $$ HC
  ihave HS := (cutS c g) $$ HS
  unfold eachSlot
  icases HC with ⟨C00, C01, C10, C11, C20, C21, C30, C31⟩
  icases HS with ⟨S00, S01, S10, S11, S20, S21, S30, S31⟩
  isplitr [C00 S00 C01 S01]
  · isplitl [C10 S10]; · isplitl [C10]; · iexact C10
                         iexact S10
    isplitl [C11 S11]; · isplitl [C11]; · iexact C11
                         iexact S11
    isplitl [C20 S20]; · isplitl [C20]; · iexact C20
                         iexact S20
    isplitl [C21 S21]; · isplitl [C21]; · iexact C21
                         iexact S21
    isplitl [C30 S30]; · isplitl [C30]; · iexact C30
                         iexact S30
    isplitl [C31]; · iexact C31
    iexact S31
  isplitl [C00]; · iexact C00
  isplitl [S00]; · iexact S00
  isplitl [C01]; · iexact C01
  iexact S01

/-- and the slots that it ends with are they. -/
theorem scratch_join : iprop(slots1 m ρ c 0 ∗ slots1 m ρ c 1) ⊢ scratch (F := F) c := by
  unfold scratch slots1 holdC holdS
  iintro ⟨⟨⟨C00, C10, C20, C30⟩, S00, S10, S20, S30⟩, ⟨C01, C11, C21, C31⟩, S01, S11, S21, S31⟩
  isplitl [C00 C10 C20 C30 C01 C11 C21 C31]
  · iapply (joinC c (ctxBuf m ρ c 0)); unfold eachSlot
    isplitl [C00]; · iapply (anyC c 0 0 _); iexact C00
    isplitl [C01]; · iapply (anyC c 0 1 _); iexact C01
    isplitl [C10]; · iapply (anyC c 1 0 _); iexact C10
    isplitl [C11]; · iapply (anyC c 1 1 _); iexact C11
    isplitl [C20]; · iapply (anyC c 2 0 _); iexact C20
    isplitl [C21]; · iapply (anyC c 2 1 _); iexact C21
    isplitl [C30]; · iapply (anyC c 3 0 _); iexact C30
    iapply (anyC c 3 1 _); iexact C31
  · iapply (joinS c (statBuf m ρ c 0)); unfold eachSlot
    isplitl [S00]; · iapply (anyS c 0 0 _); iexact S00
    isplitl [S01]; · iapply (anyS c 0 1 _); iexact S01
    isplitl [S10]; · iapply (anyS c 1 0 _); iexact S10
    isplitl [S11]; · iapply (anyS c 1 1 _); iexact S11
    isplitl [S20]; · iapply (anyS c 2 0 _); iexact S20
    isplitl [S21]; · iapply (anyS c 2 1 _); iexact S21
    isplitl [S30]; · iapply (anyS c 3 0 _); iexact S30
    iapply (anyS c 3 1 _); iexact S31
end Slots

/-! ## The obligation -/

omit [FloatOps F] [Named F] in
theorem bigSep_fin3 (Φ : Fin 3 → sProp 𝕄) : bigSep Finset.univ Φ = iprop(Φ 0 ∗ Φ 1 ∗ Φ 2) := bigSep_univ_eq_bigSepL [0, 1, 2] (by decide) (by decide) Φ

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ c ∗ (dats m ρ 0 c).owesAt () t₀.succ ∗ stg c cc0_stg0_0 (xstg m ρ c) ∗ stg c cc0_stg1_0 (wqstg m ρ c) ∗ stg c cc0_stg2_0 (kstg m ρ c)
    ∗ stg c cc0_stg3_0 (vstg m ρ c) ∗ stg c cc0_stg4_0 (wostg m ρ c) ∗ stg c cc0_stg5_0 (outAt m ρ c))

/-- From the launch's share to the body's start. -/
theorem enter (c : Dev nD) : bodyPre m ρ c ⊢ ∃ K, iprop(records m ρ K ∗ parts0 c ∗ slots0 (F := F) c ∗ operands m ρ c ∗ ∃ f, stg c cc0_stg5_0 f) := by
  unfold bodyPre Φ₀ start ghost
  iintro ⟨⟨⟨⟨%K, HR, HaB, HtB, Hpend, HaV⟩, ⟨HcB, HcV⟩, Hlev⟩, Hscr⟩, ⟨%W, %hW, HO⟩, ⟨%d0, HX⟩, ⟨%d1, HQ⟩, ⟨%d2, HK⟩, ⟨%d3, HV⟩, ⟨%d4, HW⟩, ⟨%d5, HY⟩⟩
  iexists K
  isplitl [HR]; · iexact HR
  isplitl [HO HaB HtB Hpend HaV HcB HcV Hlev]
  · unfold parts0
    isplitl [HO]; · unfold ow; iexists W; iexact HO
    isplitl [Hlev]; · iexact Hlev
    isplitl [HaB]; · iexact HaB
    isplitl [HcB]; · iexact HcB
    isplitl [HtB]; · ihave H := (Entails.of_eq (bigSep_fin3 (F := F) fun j => dutyTok ER (barCell (sdr j c)) 0 j)) $$ HtB
                     iexact H
    rw [← bigSep_ix, ← bigSep_ix]
    isplitl [Hpend]; · iexact Hpend
    unfold flight; rw [bigSep_sep']
    isplitl [HaV] <;> iassumption
  isplitl [Hscr]; · iapply (scratch_cut c); iexact Hscr
  isplitr [HY]
  · unfold operands
    isplitl [HX]
    · rw [show (dats m ρ 0 c).before (0 : Fin 6) t₀ d0 = xstg m ρ c by unfold Dat.before; rw [if_pos (fetch_in (0 : Fin 6) (by decide) t₀)]; rfl]; iexact HX
    isplitl [HQ]
    · rw [show (dats m ρ 0 c).before (1 : Fin 6) t₀ d1 = wqstg m ρ c by unfold Dat.before; rw [if_pos (fetch_in (1 : Fin 6) (by decide) t₀)]; rfl]; iexact HQ
    isplitl [HK]
    · rw [show (dats m ρ 0 c).before (2 : Fin 6) t₀ d2 = kstg m ρ c by unfold Dat.before; rw [if_pos (fetch_in (2 : Fin 6) (by decide) t₀)]; rfl]; iexact HK
    isplitl [HV]
    · rw [show (dats m ρ 0 c).before (3 : Fin 6) t₀ d3 = vstg m ρ c by unfold Dat.before; rw [if_pos (fetch_in (3 : Fin 6) (by decide) t₀)]; rfl]; iexact HV
    rw [show (dats m ρ 0 c).before (4 : Fin 6) t₀ d4 = wostg m ρ c by unfold Dat.before; rw [if_pos (fetch_in (4 : Fin 6) (by decide) t₀)]; rfl]; iexact HW
  iexists _; iexact HY

/-- From the body's end to what the pipeline takes back. -/
theorem leave (c : Dev nD) : iprop(parts1 c ∗ slots1 m ρ c 0 ∗ slots1 m ρ c 1 ∗ operands m ρ c ∗ stg c cc0_stg5_0 (outAt m ρ c)) ⊢ bodyPost m ρ c := by
  unfold parts1 bodyPost Φ₁ operands ow
  rw [← bigSep_ix, ← bigSep_ix]
  iintro ⟨⟨⟨%W, HO⟩, HB, HZ0, HZ1⟩, Hs0, Hs1, ⟨HX, HQ, HK, HV, HW⟩, HY⟩
  isplitl [HB HZ0 HZ1 Hs0 Hs1]
  · isplitl [HB]; · iexact HB
    isplitl [HZ0 HZ1]; · isplitl [HZ0] <;> iassumption
    iapply (scratch_join m ρ c); isplitl [Hs0] <;> iassumption
  isplitl [HO]
  · iexists W; isplitr; · ipureintro; exact fun _ _ => Or.inl trivial
    iexact HO
  isplitl [HX]; · iexact HX
  isplitl [HQ]; · iexact HQ
  isplitl [HK]; · iexact HK
  isplitl [HV]; · iexact HV
  isplitl [HW]; · iexact HW
  iexact HY

set_option maxRecDepth 16000 in
/-- The pipeline's body obligation on device `c`. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  show bodyPre m ρ c ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3) (fun _ => bodyPost m ρ c)
  iintro H
  ihave H := (enter m ρ c) $$ H
  icases H with ⟨%K, H⟩
  iapply (body_run m ρ K c (Kt := fun _ => bodyPost m ρ c)) $$ H
  iintro H
  iapply (leave m ρ c); iexact H

end Cert.KernelIdealProof

end
-- ==== Proof.Launch.lean ====
/-
The launch: the protocol's ghost state minted and dealt to the devices, the credits, and the run of the whole program from
any memory whose semaphore counters are zero.
-/
module

public import proofs.«01_k».proof.Proof.Point
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The kernel's own semaphores: the transfers'. -/
abbrev osem (k : Fin 12 × Fin 2) : SemLoc sig := .dma (dsem k.1 k.2)

theorem dsem_injective : Function.Injective fun k : Fin 12 × Fin 2 => dsem k.1 k.2 := fun k k' h => by
  have h : dsem k.1 k.2 = dsem k'.1 k'.2 := h
  exact Prod.ext (by rw [← ixOf_dsem k.1 k.2, h, ixOf_dsem]) (by rw [← rOf_dsem k.1 k.2, h, rOf_dsem])
theorem osem_injective : Function.Injective osem := fun k k' h => dsem_injective (SemLoc.dma.inj h)
theorem stage_low (w : Fin 6) (s : Fin (spec0 w).nbuf) : (((spec0 w).sem s : DmaSem sig) : Fin 30).val < 6 := by revert w; decide
theorem ownSemFacts : Pipeline.OwnSemFacts cfg0.spec osem where
  isScoped := by decide
  inj := osem_injective
  disj := fun k w s h => by
    have e : dsem k.1 k.2 = (spec0 w).sem s := SemLoc.dma.inj h
    have h1 := stage_low w s
    rw [← e] at h1
    have h2 : 6 + 2 * k.1.val + k.2.val < 6 := h1
    omega

theorem share_eq (c : Dev nD) (w : Fin cfg0.W) : (dats m ρ 0 c).share w = fullShare := by unfold Dat.share; split <;> rfl

theorem csem_injective : Function.Injective csem := by
  rintro (u | k) (u' | k') h
  · rfl
  · cases h
  · cases h
  · exact congrArg _ (osem_injective h)
theorem kcell_injective : Function.Injective (kcell : Dev nD × CK → GSem nD τ sig) := fun x y h =>
  Prod.ext (congrArg (fun g : GSem nD τ sig => g.1.1) h) (csem_injective (congrArg Prod.snd h))
def protoCells : Finset (GSem nD τ sig) := Finset.univ.map ⟨kcell, kcell_injective⟩

/-- A device's own cells' duties: its barrier's three, and one for each of its transfers' semaphores. -/
abbrev TK : Type := Fin 3 ⊕ (Fin 12 × Fin 2)
abbrev tokOf (ct : Dev nD × TK) : GSem nD τ sig × ℕ × Fin 3 := match ct.2 with
  | .inl j => (barCell ct.1, 0, j) | .inr k => (dCell ct.1 k.1 k.2, 0, 0)
theorem tokOf_injective : Function.Injective tokOf := by
  rintro ⟨c, t⟩ ⟨c', t'⟩ h
  have hs : (tokOf (c, t)).1.2 = (tokOf (c', t')).1.2 := by rw [h]
  have hd : (tokOf (c, t)).2.2 = (tokOf (c', t')).2.2 := by rw [h]
  have hc : (tokOf (c, t)).1.1.1 = (tokOf (c', t')).1.1.1 := by rw [h]
  rcases t with j | k <;> rcases t' with j' | k'
  · exact Prod.ext hc (congrArg Sum.inl hd)
  · cases hs
  · cases hs
  · exact Prod.ext hc (congrArg Sum.inr (osem_injective hs))
def protoToks : Finset (GSem nD τ sig × ℕ × Fin 3) := Finset.univ.map ⟨tokOf, tokOf_injective⟩

/-- The launch element: the pipeline library's and the protocol's. -/
def u₀ : UU :=
  (initOf (Pipeline.cells cfgs cellOf_inj) (Pipeline.launchToks cfgs cellOf_inj), initOf protoCells protoToks)

/-- The duty tokens of a device's own cells; the tokens that it pays with. -/
def toks (c : Dev nD) : sProp 𝕄 :=
  iprop((bigSep Finset.univ fun j : Fin 3 => dutyTok ER (barCell c) 0 j) ∗ bigSep Finset.univ fun i : Fin 12 => iprop(dutyTok ER (dCell c i 0) 0 0 ∗ dutyTok ER (dCell c i 1) 0 0))
def payToks (c : Dev nD) : sProp 𝕄 :=
  iprop((bigSep Finset.univ fun j : Fin 3 => dutyTok ER (barCell (sdr j c)) 0 j)
    ∗ bigSep Finset.univ fun i : Fin 12 => iprop(dutyTok ER (dCell c i 0) 0 0 ∗ dutyTok ER (dCell (tgt (jOf i) c) i 1) 0 0))

/-- A device's cells: their states, positions and round-0 marks, and the tokens. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)
/-- What a device starts with, at some names. -/
def G' (c : Dev nD) : sProp 𝕄 := iprop(∃ K, ghost m ρ K c)

omit [FloatOps F] [Named F] in
theorem bigSep_pair (Φ : Fin 12 × Fin 2 → sProp 𝕄) : bigSep Finset.univ Φ = bigSep Finset.univ fun i : Fin 12 => iprop(Φ (i, 0) ∗ Φ (i, 1)) := by
  rw [bigSep_univ_prod]
  exact bigSep_congr fun i _ => bigSep_univ_eq_bigSepL [0, 1] (by decide) (by decide) _
omit [FloatOps F] [Named F] in
/-- A family over a device's cells is its barrier's and its transfers'. -/
theorem bigSep_CK (Φ : CK → sProp 𝕄) :
    bigSep Finset.univ Φ = iprop(Φ (.inl ()) ∗ bigSep Finset.univ fun i : Fin 12 => iprop(Φ (.inr (i, 0)) ∗ Φ (.inr (i, 1)))) := by
  rw [BI.bigSep_univ_sum, bigSep_pair]
  exact congrArg₂ _ (bigSep_univ_of_subsingleton ()) rfl

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    refine bigSep_congr fun c _ => ?_
    unfold toks; rw [BI.bigSep_univ_sum, bigSep_pair]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
theorem ownSems0_eq (c : Dev nD) : (Pipeline.ownSems0 (Ix := Unit) (Name := ℕ) (U := UU) (Lvl := ℕ) (Val := Elt F) (τ := τ) osem c : sProp 𝕄)
    = bigSep Finset.univ fun i => iprop(semVal (dCell c i 0) 0 ∗ semVal (dCell c i 1) 0) := bigSep_pair _
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨HS, HB⟩
  isplitl [HB] <;> iassumption

/-- A device's semaphores at zero become its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with a device: its positions and the tokens that it pays with. -/
def linear (c : Dev nD) : sProp 𝕄 := iprop((bigSep Finset.univ fun k : CK => atPos ER (kcell (c, k)) 0 ∅ 0) ∗ payToks c)

theorem ghost_intro (K : Dev nD × CK → ℕ) (c : Dev nD) : iprop(records m ρ K ∗ linear c) ⊢ G' m ρ c := by
  unfold linear payToks G' ghost pend
  rw [bigSep_CK]
  simp only [bigSep_sep']
  iintro ⟨HR, ⟨HaB, HaS, HaV⟩, HtB, HtS, HtV⟩
  iexists K
  isplitl [HR]; · iexact HR
  isplitl [HaB]; · iexact HaB
  isplitl [HtB]; · iexact HtB
  isplitr [HaV]
  · isplitl [HaS]; · iexact HaS
    isplitl [HtS] <;> iassumption
  iexact HaV

omit [FloatOps F] [Named F] in
/-- A family over devices and `J`, dealt anew: `j`'s part of device `c` goes to the device that `e j` takes to `c`. -/
theorem deal {J : Type} [Fintype J] (e : J → Dev nD ≃ Dev nD) (Φ : Dev nD → J → sProp 𝕄) :
    (bigSep Finset.univ fun c : Dev nD => bigSep Finset.univ fun j => Φ c j) = bigSep Finset.univ fun c : Dev nD => bigSep Finset.univ fun j => Φ (e j c) j := by
  rw [BI.bigSep_univ_comm, BI.bigSep_univ_comm (fun (c : Dev nD) j => Φ (e j c) j)]
  exact bigSep_congr fun j _ => bigSep_univ_equiv (e j) fun c => Φ c j

omit [FloatOps F] [Named F] in
/-- The tokens dealt around: a barrier's duty `j` to the device whose sender in direction `j` the barrier's is, a receive
    duty to the sender. -/
theorem toks_around : (bigSep Finset.univ fun c : Dev nD => (toks c : sProp 𝕄)) = bigSep Finset.univ fun c : Dev nD => payToks c := by
  unfold toks payToks
  simp only [bigSep_sep']
  rw [deal (fun j => (around j).symm) fun (c : Dev nD) (j : Fin 3) => (dutyTok ER (barCell c) 0 j : sProp 𝕄),
    deal (fun i => around (jOf i)) fun (c : Dev nD) (i : Fin 12) => (dutyTok ER (dCell c i 1) 0 0 : sProp 𝕄)]
  rfl

omit [FloatOps F] [Named F] in
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htk⟩
  ihave HK := (BI.bigSep_exists_pi Finset.univ (fun (ck : Dev nD × CK) (κ : ℕ) => (cellInv ER (sched m ρ) κ (kcell ck) : sProp 𝕄))) $$ HI
  icases HK with ⟨%K, #HI⟩
  iapply (each_with (R := records m ρ K) fun c _ => ghost_intro m ρ K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

/-- The step from every device's semaphores to every device's start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => congrArg (fun g : GSem nD τ sig => g.1.1) h, fun h => h ▸ rfl⟩
theorem dCell_eq_iff {a b : Dev nD} {i j : Fin 12} {r : Fin 2} : Iff (dCell a i r = dCell b j r) (a = b ∧ i = j) :=
  ⟨fun h => ⟨congrArg (fun g : GSem nD τ sig => g.1.1) h, congrArg Prod.fst (osem_injective (a₁ := (i, r)) (a₂ := (j, r)) (congrArg Prod.snd h))⟩, fun h => h.1 ▸ h.2 ▸ rfl⟩
theorem bar_ne_dma (a b : Dev nD) (i : Fin 12) (r : Fin 2) : barCell a ≠ dCell b i r := fun h => by cases congrArg Prod.snd h

/-- What device `d` owes, as a sum over the duties that it pays. -/
theorem owedBar_apply (d : Dev nD) (g : GSem nD τ sig) :
    owedBar d 0 g () = (∑ j : Fin 3, if barCell (sdr j d) = g then 1 else 0) + ∑ i : Fin 12, if dCell (tgt (jOf i) d) i 1 = g then amt i else 0 := by
  unfold owedBar
  rw [List.drop_zero, owedSum_apply, List.map_append, List.sum_append, List.map_map, List.map_map]
  congr 1
  rw [show (∑ i : Fin 12, if dCell (tgt (jOf i) d) i 1 = g then amt i else 0) = ∑ i ∈ sendOrder.toFinset, if dCell (tgt (jOf i) d) i 1 = g then amt i else 0 from
    Finset.sum_congr (by decide) fun _ _ => rfl, List.sum_toFinset _ (by decide)]
  rfl

theorem launch_bar (c : Dev nD) :
    tallyOn (barCell c) (launchCredit (Pipeline.owing fun d => owedBar d 0) 0 (barCell c)) = (tallyAt (barCell c) () 3 : CellTallies nD τ sig Unit) := by
  unfold tallyAt; refine congrArg _ (Finsupp.ext fun u => ?_); cases u
  rw [Pipeline.launchCredit_owing, Finsupp.single_eq_same]
  have h (d : Dev nD) : owedBar d 0 (barCell c) () = ∑ j : Fin 3, if sdr j d = c then 1 else 0 := by
    rw [owedBar_apply, Finset.sum_eq_zero (s := (Finset.univ : Finset (Fin 12))) fun i _ => if_neg fun h => (bar_ne_dma _ _ _ _ h.symm).elim, Nat.add_zero]
    exact Finset.sum_congr rfl fun j _ => if_congr bar_eq_iff rfl rfl
  rw [Finset.sum_congr rfl fun d _ => h d]
  clear h; revert c; decide

theorem launch_recv (c : Dev nD) (i : Fin 12) :
    tallyOn (dCell c i 1) (launchCredit (Pipeline.owing fun d => owedBar d 0) 0 (dCell c i 1)) = (tallyAt (dCell c i 1) () (amt i) : CellTallies nD τ sig Unit) := by
  unfold tallyAt; refine congrArg _ (Finsupp.ext fun u => ?_); cases u
  rw [Pipeline.launchCredit_owing, Finsupp.single_eq_same]
  have h (d : Dev nD) : owedBar d 0 (dCell c i 1) () = if tgt (jOf i) d = c then amt i else 0 := by
    rw [owedBar_apply, Finset.sum_eq_zero (s := (Finset.univ : Finset (Fin 3))) fun j _ => if_neg fun h => (bar_ne_dma _ _ _ _ h).elim, Nat.zero_add,
      Finset.sum_eq_single i (fun i' _ hi => if_neg fun h => hi (dCell_eq_iff.mp h).2) fun h => absurd (Finset.mem_univ i) h]
    exact if_congr (dCell_eq_iff.trans (and_iff_left rfl)) rfl rfl
  rw [Finset.sum_congr rfl fun d _ => h d, Finset.sum_eq_single (sdr (jOf i) c) (fun d _ hd => if_neg fun h => hd (by rw [← h, sdr_tgt])) fun h => absurd (Finset.mem_univ _) h,
    if_pos (tgt_sdr _ _)]

theorem creds (c : Dev nD) :
    (Pipeline.launchCred (fun d => owedBar d 0) c : sProp 𝕄) ⊢ iprop(cred (tallyAt (barCell c) () 3) ∗ bigSep Finset.univ fun i => cred (tallyAt (dCell c i 1) () (amt i))) := by
  unfold Pipeline.launchCred
  rw [bigSep_univ_at _ (SemLoc.reg barS), launch_bar]
  refine sep_mono_right ?_
  let e : Fin 12 ↪ SemLoc sig := ⟨fun i => .dma (dsem i 1), fun i j h => congrArg Prod.fst (osem_injective (a₁ := (i, 1)) (a₂ := (j, 1)) h)⟩
  refine (bigSep_subset (t := Finset.univ.map e) fun x hx => ?_).trans ?_
  · obtain ⟨i, hi⟩ := Finset.mem_map.mp hx
    rw [← hi.2]
    exact Finset.mem_erase.mpr ⟨(fun h => nomatch h), Finset.mem_univ _⟩
  · rw [bigSep_map]
    exact bigSep_mono fun i _ => Entails.of_eq (congrArg cred (launch_recv c i))

/-! ### The launch's side conditions -/

theorem start_intro (c : Dev nD) :
    iprop(Pipeline.unscopedRestP Pipeline.Prefetch.none cfg0.spec c (fun b => m ((c : Thread nD τ).loc b)) ∗ levAts L lv
        ∗ Pipeline.launchCred (fun d => owedBar d 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ shut scratch
  rw [← bigSep_sep']

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_low w s) _ (by
      rcases t with ⟨_ | _, ht⟩
      · exact Or.inl rfl
      · exact Or.inr rfl)

/-! ### The run -/

/-- What window `w`'s array of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every fair execution of the program
    terminates, each device's arrays end at the computed contents, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedBar d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they began. -/
theorem finalA_in (c : Dev nD) (w : Fin cfg0.W) (hw : w ≠ (5 : Fin 6)) : finalA m ρ c w = (s₀ m ρ).mem ((cfg0.win w).arr.view.loc (c : Thread nD τ)) :=
  (dats (F := F) m ρ 0 c).arrAt_in w (by revert w; decide) _

end Cert.KernelIdealProof

end
-- ==== Proof.HeadsValue.lean ====
/-
What a device computes of its own keys and values, element by element over the reals: the mask's bias, each head's weighted
sums of values, and each head's sums of weights.
-/
module

public import proofs.«01_k».proof.Proof.Contents
public import Idealize.ShloMosaic.Lib.Pointwise

@[expose] public section

noncomputable section

namespace Cert.KernelIdealProof

open Cert.KernelIdeal Cert.KernelIdeal.Gen
open Idealize.ShloMosaic Idealize.SL.Sem

/-- Head `h`'s column `e` among the heads' columns side by side. -/
abbrev col (h : Fin 4) (e : Fin 64) : Fin 256 := ⟨64 * h.val + e.val, by omega⟩

section
variable (X : Vec Ideal S2x256x512 .f32) (WQ : Vec Ideal S512x256 .f32) (KK VV : Vec Ideal S2x256x4x64 .f32)

/-- Head `h`'s score of query `i` against a device's key `r`, in batch `b`: the product of the scaled query with the key. -/
def scoreK (b : Fin 2) (h : Fin 4) (i r : Fin 256) : EReal :=
  ∑ e : Fin 64, (∑ k : Fin 512, X (ix3 b i k) * (WQ (ix2 k (col h e)) * Ideal.ofBits .f32 0x3E000000#32)) * KK (ix4 b r h e)

/-- The load of batch `b`, at an index of the buffer. -/
theorem kvB_apply (f : Vec Ideal S2x256x4x64 .f32) (b : Fin 2) (i : Fin 256) (h : Fin 4) (d : Fin 64) : kvB f b (ix4 0 i h d) = f (ix4 b i h d) := by
  refine congrArg f (funext fun a => Fin.ext ?_)
  fin_cases a <;> simp [Rect.unit, ix4]

theorem div64 (x : Fin 64) : x.val / 64 = 0 := by omega
theorem mod64 (x : Fin 64) : x.val % 64 = x.val := by omega
theorem div64_1 (x : Fin 64) : (64 + x.val) / 64 = 1 := by omega
theorem div64_2 (x : Fin 64) : (128 + x.val) / 64 = 2 := by omega
theorem div64_3 (x : Fin 64) : (192 + x.val) / 64 = 3 := by omega
theorem div256 (x : Fin 256) : x.val / 256 = 0 := by omega
theorem mod256 (x : Fin 256) : x.val % 256 = x.val := by omega
theorem div256_1 (x : Fin 256) : (256 + x.val) / 256 = 1 := by omega

set_option maxRecDepth 16384 in
/-- A head's weighted sums of the device's values: the weight of key `r` is the exponential of its score plus the mask's bias. -/
theorem ctxOf_apply (b : Fin 2) (h : Fin 4) (i : Fin 256) (d : Fin 64) :
    ctxOf X WQ KK VV b h (ix4 0 0 i d) = ∑ r : Fin 256, Ideal.exp (scoreK X WQ KK b h i r + bias (F := Ideal) (ix2 i r)) * VV (ix4 b r h d) := by
  unfold scoreK
  simp only [← kvB_apply]
  fin_cases b <;> fin_cases h <;> simp only [ctxOf]
  all_goals
    pointwise [k0_pay5, k0_pay6, k0_pay7, k0_pay8, k0_pay9, k0_pay10, k0_pay11, k0_pay13, k0_pay14, k0_pay15, k0_pay17, k0_pay18, k0_pay20, k0_pay21, k0_pay22, k0_pay24,
      k0_pay25, k0_pay26, k0_pay27, k0_pay28, k0_pay29, k0_pay31, k0_pay33, k0_pay34, k0_pay36, k0_pay37, k0_pay39, k0_pay41, k0_pay42, col,
      div64, mod64, div64_1, div64_2, div64_3, div256, mod256, div256_1, Fin.eta, Fin.reduceFinMk]

set_option maxRecDepth 16384 in
/-- A head's sums of weights over the device's keys. -/
theorem statOf_apply (b : Fin 2) (h : Fin 4) (i : Fin 256) :
    statOf X WQ KK b h (ix4 0 0 0 i) = ∑ r : Fin 256, Ideal.exp (scoreK X WQ KK b h i r + bias (F := Ideal) (ix2 i r)) := by
  unfold scoreK
  simp only [← kvB_apply]
  fin_cases b <;> fin_cases h <;> simp only [statOf]
  all_goals
    pointwise [k0_pay5, k0_pay6, k0_pay7, k0_pay8, k0_pay10, k0_pay12, k0_pay13, k0_pay14, k0_pay16, k0_pay17, k0_pay19, k0_pay20, k0_pay21, k0_pay23, k0_pay24,
      k0_pay25, k0_pay26, k0_pay28, k0_pay30, k0_pay31, k0_pay32, k0_pay35, k0_pay36, k0_pay38, k0_pay39, k0_pay40, k0_pay43, col,
      div64, mod64, div64_1, div64_2, div64_3, div256, mod256, div256_1, Fin.eta, Fin.reduceFinMk]
end

/-- The block of 64 that `i` is in, as the program computes it from a word. -/
theorem tok_eq (i : Fin 256) :
    Scalar.select (IntOp.andi (IntOp.cmpi .ne (IntOp.subi (BitVec.setWidth 32 (IntOp.cmpi .sgt (BitVec.ofNat 32 i.val) 0#32)) (BitVec.setWidth 32 (IntOp.cmpi .slt (BitVec.ofNat 32 i.val) 0#32)))
        (Scalar.subi (Scalar.extui (Scalar.cmpi .sgt 64#32 0#32)) (Scalar.extui (Scalar.cmpi .slt 64#32 0#32))))
        (IntOp.cmpi .ne (IntOp.remsi .vector (BitVec.ofNat 32 i.val) 64#32) 0#32))
      (IntOp.subi (IntOp.divsi .vector (BitVec.ofNat 32 i.val) 64#32) 1#32) (IntOp.divsi .vector (BitVec.ofNat 32 i.val) 64#32) = BitVec.ofNat 32 (i.val / 64) := by
  revert i; decide +kernel

/-- The mask's bias is 0 where the query and the key are in the same block of 64, else −∞. -/
theorem bias_apply (i r : Fin 256) : (bias (F := Ideal)) (ix2 i r) = if i.val / 64 = r.val / 64 then 0 else ⊥ := by
  unfold bias
  pointwise [k0_pay1, k0_pay2, k0_pay3, k0_pay4]
  rw [tok_eq, tok_eq, IdealRules.named_const.ideal_named_scalar κ "mask" _ ⊥ rfl]
  by_cases e : i.val / 64 = r.val / 64
  · simp [e, Scalar.select, IntOp.cmpi]
  · have n : BitVec.ofNat 32 (i.val / 64) ≠ BitVec.ofNat 32 (r.val / 64) := fun n => e (by
      have := congrArg BitVec.toNat n; simp only [BitVec.toNat_ofNat] at this; omega)
    rw [if_neg e]; simp only [Scalar.select, IntOp.cmpi, beq_eq_false_iff_ne.mpr n]; rfl

end Cert.KernelIdealProof
end
-- ==== Proof.OutValue.lean ====
/-
A device's rows of the result, element by element over the reals, from the four devices' heads and sums of weights.
-/
module

public import proofs.«01_k».proof.Proof.HeadsValue

@[expose] public section

noncomputable section

namespace Cert.KernelIdealProof

open Cert.KernelIdeal Cert.KernelIdeal.Gen
open Idealize.ShloMosaic Idealize.SL.Sem

/-- A sum over `a * n` positions is the sum over `a` parts of the sums over each part's `n` positions. -/
theorem sum_cut {a n N : ℕ} (hN : a * n = N) (hlt : ∀ (h : Fin a) (e : Fin n), n * h.val + e.val < N) (f : Fin N → EReal) :
    ∑ x, f x = ∑ h : Fin a, ∑ e : Fin n, f ⟨n * h.val + e.val, hlt h e⟩ := by
  subst hN
  rw [← Fintype.sum_prod_type' (fun h e => f ⟨n * h.val + e.val, hlt h e⟩)]
  exact (Fintype.sum_equiv finProdFinEquiv _ _ fun p => congrArg f (Fin.ext (Nat.add_comm _ _))).symm

/-- A sum over the columns side by side is the sum over the heads of the sums over each head's columns. -/
theorem sum_col (f : Fin 256 → EReal) : ∑ x, f x = ∑ h : Fin 4, ∑ d : Fin 64, f (col h d) :=
  sum_cut (a := 4) (n := 64) rfl (fun h e => by omega) f

set_option maxRecDepth 16384 in
/-- A batch's rows of the result: each head's sums over the devices, times the reciprocal of its sum of weights over the
    devices, through the output matrix. -/
theorem outOf_apply (WO : Vec Ideal S256x512 .f32) (b : Fin 2) (C : Fin 4 → Fin 4 → Vec Ideal S1x1x256x64 .bf16) (S : Fin 4 → Vec Ideal S1x1x4x256 .f32)
    (i : Fin 256) (j : Fin 512) :
    outOf WO b C S (ix3 0 i j) = ∑ h : Fin 4, ∑ d : Fin 64,
      (C 0 h (ix4 0 0 i d) + C 1 h (ix4 0 0 i d) + C 2 h (ix4 0 0 i d) + C 3 h (ix4 0 0 i d))
        * Ideal.div 1 (S 0 (ix4 0 0 h i) + S 1 (ix4 0 0 h i) + S 2 (ix4 0 0 h i) + S 3 (ix4 0 0 h i)) * WO (ix2 (col h d) j) := by
  fin_cases b <;> simp only [outOf]
  all_goals
    pointwise [k0_pay44, k0_pay45, k0_pay46, k0_pay47, k0_pay48, k0_pay49, k0_pay50, k0_pay51, k0_pay52, k0_pay53, k0_pay54, k0_pay55, k0_pay56, k0_pay57]
  all_goals
    rw [sum_col]
    refine Finset.sum_congr rfl fun h _ => Finset.sum_congr rfl fun d _ => ?_
    have hd := d.isLt
    congr 1
    fin_cases h <;> simp only [col, Fin.reduceFinMk, Nat.reduceMul, Fin.zero_eta, Fin.mk_one, Fin.val_zero, Fin.val_one, Fin.val_two, Fin.coe_ofNat_eq_mod, Nat.reduceMod,
      Nat.zero_add, Nat.sub_sub, Nat.reduceAdd, Nat.add_sub_cancel_left]
    all_goals split_ifs <;> first | omega | rfl

end Cert.KernelIdealProof
end
-- ==== Proof.Result.lean ====
/-
What the kernel's result holds at the end, element by element over the reals, on each device.
-/
module

public import proofs.«01_k».proof.Proof.OutValue
public import proofs.«01_k».proof.Proof.Launch

@[expose] public section

noncomputable section

namespace Cert.KernelIdealProof

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result's array at the end, read as its one block, is what the body stored. -/
theorem finalA_out (c : Dev nD) : (win0_5.blk (0 : Fin 1)).view.read (Elt Ideal) (finalA m ρ c (5 : Fin 6)) = outAt m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-! A window of one block reads its whole array. -/

/-- The result's block is the result. -/
theorem read5 (f : (main_v1 : Ref sig .tc).ty.Contents (Elt Ideal)) : (win0_5.blk (0 : Fin 1)).view.read (Elt Ideal) f = f :=
  Memref.read_access_unit_zero (Elt Ideal) main_v1 (funext fun a => by fin_cases a <;> decide) (fun a => by fin_cases a <;> decide) f
/-- The staged input is the input. -/
theorem xstg_eq (c : Dev nD) : xstg m ρ c = m ((c : Thread nD τ).loc main_arg0) :=
  Memref.read_access_unit_zero (Elt Ideal) main_arg0 (funext fun a => by fin_cases a <;> decide) (fun a => by fin_cases a <;> decide) _
/-- The staged query matrix is the query matrix. -/
theorem wqstg_eq (c : Dev nD) : wqstg m ρ c = m ((c : Thread nD τ).loc main_arg1) :=
  Memref.read_access_unit_zero (Elt Ideal) main_arg1 (funext fun a => by fin_cases a <;> decide) (fun a => by fin_cases a <;> decide) _
/-- The staged keys are the device's keys. -/
theorem kstg_eq (c : Dev nD) : kstg m ρ c = m ((c : Thread nD τ).loc main_arg2) :=
  Memref.read_access_unit_zero (Elt Ideal) main_arg2 (funext fun a => by fin_cases a <;> decide) (fun a => by fin_cases a <;> decide) _
/-- The staged values are the device's values. -/
theorem vstg_eq (c : Dev nD) : vstg m ρ c = m ((c : Thread nD τ).loc main_arg3) :=
  Memref.read_access_unit_zero (Elt Ideal) main_arg3 (funext fun a => by fin_cases a <;> decide) (fun a => by fin_cases a <;> decide) _
/-- The staged output matrix is the output matrix. -/
theorem wostg_eq (c : Dev nD) : wostg m ρ c = m ((c : Thread nD τ).loc main_arg4) :=
  Memref.read_access_unit_zero (Elt Ideal) main_arg4 (funext fun a => by fin_cases a <;> decide) (fun a => by fin_cases a <;> decide) _

/-- What a device holds in its four slots, summed, is what the four devices hold of themselves, summed. -/
theorem sum_src (c : Dev nD) (f : Dev nD → EReal) : f (src 0 c) + f (src 1 c) + f (src 2 c) + f (src 3 c) = ∑ c' : Dev nD, f c' := by
  have hb : Function.Bijective fun s : Fin 4 => src s c := by revert c; decide
  rw [← hb.sum_comp f, Fin.sum_univ_four]

/-- Batch `b` of the result's buffer holds what was computed for batch `b`. -/
theorem fillO_apply (g : Fin 2 → Vec Ideal S1x256x512 .f32) (b : Fin 2) (i : Fin 256) (j : Fin 512) : fillO g (ix3 b i j) = g b (ix3 0 i j) := by
  unfold fillO
  refine congrArg (g b) (funext fun a => Fin.ext ?_)
  fin_cases a <;> rfl

/-- Row `h` of the sums of weights is head `h`'s. -/
theorem rowsS_apply (g : Fin 4 → Vec Ideal S1x1x1x256 .f32) (h : Fin 4) (i : Fin 256) : rowsS g (ix4 0 0 h i) = g h (ix4 0 0 0 i) := by
  unfold rowsS
  refine congrArg (g h) (funext fun a => Fin.ext ?_)
  fin_cases a <;> rfl

/-- What the body stored, as an array of extended reals. -/
def outV (c : Dev nD) : S2x256x512.Idx → EReal := outAt m ρ c

/-- The result's array at the end is what the body stored. -/
theorem finalA_eq (c : Dev nD) : finalA m ρ c (5 : Fin 6) = outV m ρ c := (read5 _).symm.trans (finalA_out m ρ c)

/-- An element of the result: for each head the weighted sums of values over all devices' keys, times the reciprocal of the sum
    of the weights, through the output matrix. -/
theorem final_apply (c : Dev nD) (b : Fin 2) (i : Fin 256) (j : Fin 512) :
    outV m ρ c (ix3 b i j) = ∑ h : Fin 4, ∑ d : Fin 64,
      (∑ c' : Dev nD, ∑ r : Fin 256, Ideal.exp (scoreK (m ((c' : Thread nD τ).loc main_arg0)) (m ((c' : Thread nD τ).loc main_arg1)) (m ((c' : Thread nD τ).loc main_arg2)) b h i r
          + bias (F := Ideal) (ix2 i r)) * (m ((c' : Thread nD τ).loc main_arg3) : Vec Ideal S2x256x4x64 .f32) (ix4 b r h d))
        * Ideal.div 1 (∑ c' : Dev nD, ∑ r : Fin 256, Ideal.exp (scoreK (m ((c' : Thread nD τ).loc main_arg0)) (m ((c' : Thread nD τ).loc main_arg1)) (m ((c' : Thread nD τ).loc main_arg2)) b h i r
          + bias (F := Ideal) (ix2 i r)))
        * (m ((c : Thread nD τ).loc main_arg4) : Vec Ideal S256x512 .f32) (ix2 (col h d) j) := by
  unfold outV outAt outB
  rw [fillO_apply, outOf_apply]
  refine Finset.sum_congr rfl fun h _ => Finset.sum_congr rfl fun d _ => ?_
  simp only [rowsS_apply]
  rw [sum_src c fun c' => ctxHead m ρ c' b h (ix4 0 0 i d), sum_src c fun c' => statHead m ρ c' b h (ix4 0 0 0 i)]
  simp only [ctxHead, statHead, ctxOf_apply, statOf_apply, xstg_eq, wqstg_eq, kstg_eq, vstg_eq, wostg_eq]

end Cert.KernelIdealProof
end
-- ==== Proof.Softmax.lean ====
/-
The one equation between the two programs' arithmetic, over the extended reals: weights summed as they are and divided by
their sum afterwards are the softmax's weights, whose exponents are first lowered by the greatest score.
-/
module

public import Idealize.ShloMosaic.PureOps.Ideal.Laws

@[expose] public section

noncomputable section

namespace Cert.Softmax

open Idealize.ShloMosaic

variable {ι : Type} [Fintype ι]

/-- A sum of reals, as an extended real, is the sum of the extended reals. -/
theorem coe_sum (f : ι → ℝ) : ((∑ i, f i : ℝ) : EReal) = ∑ i, (f i : EReal) :=
  map_sum (⟨⟨fun x : ℝ => (x : EReal), EReal.coe_zero⟩, EReal.coe_add⟩ : ℝ →+ EReal) f Finset.univ

/-- A nonnegative real factor goes inside a sum of extended reals. -/
theorem sum_mul_real (f : ι → EReal) {r : ℝ} (hr : 0 ≤ r) : (∑ i, f i) * (r : EReal) = ∑ i, f i * (r : EReal) :=
  map_sum (⟨⟨fun x : EReal => x * (r : EReal), zero_mul _⟩,
    fun x y => EReal.right_distrib_of_nonneg_of_ne_top (EReal.coe_nonneg.2 hr) (EReal.coe_ne_top r) x y⟩ : EReal →+ EReal) f Finset.univ

/-- The exponential of a real. -/
theorem exp_coe (r : ℝ) : Ideal.exp (r : EReal) = (Real.exp r : EReal) := rfl

/-- A real divided by a positive real. -/
theorem div_coe (a : ℝ) {b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

variable (s : ι → ℝ) (p : ι → Prop) [DecidablePred p] (v : ι → EReal)

/-- The weight of a key: the exponential of its score where the mask keeps it, else 0. -/
def weight (k : ι) : ℝ := if p k then Real.exp (s k) else 0

/-- Weights are not negative. -/
theorem weight_nonneg (k : ι) : 0 ≤ weight s p k := by unfold weight; split_ifs <;> positivity

/-- The weight written with the mask added to the score as 0 or −∞. -/
theorem exp_bias (k : ι) : Ideal.exp ((s k : EReal) + if p k then 0 else ⊥) = (weight s p k : EReal) := by
  unfold weight
  split_ifs
  · rw [add_zero, exp_coe]
  · rw [EReal.add_bot]; rfl

/-- The weight written with the mask choosing between the score and −∞, the exponent lowered by a real. -/
theorem exp_mask (m : ℝ) (k : ι) : Ideal.exp ((if p k then (s k : EReal) else ⊥) - (m : EReal)) = ((weight s p k / Real.exp m : ℝ) : EReal) := by
  unfold weight
  split_ifs
  · rw [← EReal.coe_sub, exp_coe, Real.exp_sub]
  · rw [EReal.bot_sub, zero_div]; rfl

/-- The greatest masked score is a real, where the mask keeps some key. -/
theorem max_real {k₀ : ι} (h₀ : p k₀) : ∃ m : ℝ, (Finset.univ.fold max ⊥ fun k => if p k then (s k : EReal) else ⊥) = (m : EReal) := by
  refine ⟨_, (EReal.coe_toReal (x := Finset.univ.fold max ⊥ fun k => if p k then (s k : EReal) else ⊥) ?_ ?_).symm⟩
  · refine ne_of_lt ((Finset.fold_max_lt _).2 ⟨bot_lt_top, fun k _ => ?_⟩)
    split_ifs
    · exact EReal.coe_lt_top _
    · exact bot_lt_top
  · refine ne_of_gt (lt_of_lt_of_le (EReal.bot_lt_coe (s k₀)) ((Finset.le_fold_max _).2 (Or.inr ⟨k₀, Finset.mem_univ _, ?_⟩)))
    rw [if_pos h₀]

/-- Weighted sums divided by the sum of the weights are the softmax's sums. -/
theorem normalize {k₀ : ι} (h₀ : p k₀) :
    (∑ k, Ideal.exp ((s k : EReal) + if p k then 0 else ⊥) * v k) * Ideal.div 1 (∑ k, Ideal.exp ((s k : EReal) + if p k then 0 else ⊥))
      = ∑ k, v k * Ideal.div (Ideal.exp ((if p k then (s k : EReal) else ⊥) - Finset.univ.fold max ⊥ fun k => if p k then (s k : EReal) else ⊥))
          (∑ k', Ideal.exp ((if p k' then (s k' : EReal) else ⊥) - Finset.univ.fold max ⊥ fun k => if p k then (s k : EReal) else ⊥)) := by
  obtain ⟨m, hm⟩ := max_real s p h₀
  have hm' := Real.exp_pos m
  have hD : 0 < ∑ k, weight s p k := Finset.sum_pos' (fun k _ => weight_nonneg s p k)
    ⟨k₀, Finset.mem_univ _, by unfold weight; rw [if_pos h₀]; exact Real.exp_pos _⟩
  simp only [hm, exp_bias, exp_mask, ← coe_sum, ← Finset.sum_div]
  rw [← EReal.coe_one, div_coe 1 hD, sum_mul_real _ (by positivity)]
  refine Finset.sum_congr rfl fun k _ => ?_
  rw [div_coe _ (by positivity), mul_comm (weight s p k : EReal), mul_assoc, ← EReal.coe_mul]
  congr 2
  field_simp

end Cert.Softmax
end
-- ==== Proof.RefValue.lean ====
/-
What the reference computes, element by element over the reals: the mask, the scores, the softmax's weights and the result.
-/
module

public import proofs.«01_k».proof.Proof.OutValue
public import proofs.«01_k».proof.Proof.Gen.ReferenceIdeal.Run
public import Idealize.ShloMosaic.Lib.Pointwise

@[expose] public section

noncomputable section

namespace Cert.ReferenceIdealProof

open Cert.ReferenceIdeal Cert.ReferenceIdeal.Gen Cert.ReferenceIdeal.Value
open Idealize.ShloMosaic Idealize.ShloMosaic.TcCoe Idealize.SL.Sem
open Cert.KernelIdealProof (col sum_col)

/-! ### The mask, in words -/

/-- The queries' blocks of 64. -/
def blkQ : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The keys' blocks of 64. -/
def blkK : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
/-- The divisor 4. -/
def four : IVec S_ 32 := select (cmpi .eq (id (constantI S_ 32 4#32)) (constantI S_ 32 0#32)) (constantI S_ 32 1#32) (id (constantI S_ 32 4#32))
/-- The keys' blocks modulo 4. -/
def modK : IVec S1x1024 32 :=
  select (andi (cmpi .ne (cmpi .slt (Host.remsi (broadcastInDim S1x1024 ![1] bcast_S1024_S1x1024_1 blkK) (broadcastInDim S1x1024 ![] bcast_S_S1x1024 four)) (broadcastInDim S1x1024 ![] bcast_S_S1x1024 (constantI S_ 32 0#32))) (broadcastInDim S1x1024 ![] bcast_S_S1x1024 (cmpi .slt four (constantI S_ 32 0#32)))) (cmpi .ne (Host.remsi (broadcastInDim S1x1024 ![1] bcast_S1024_S1x1024_1 blkK) (broadcastInDim S1x1024 ![] bcast_S_S1x1024 four)) (broadcastInDim S1x1024 ![] bcast_S_S1x1024 (constantI S_ 32 0#32)))) (addi (Host.remsi (broadcastInDim S1x1024 ![1] bcast_S1024_S1x1024_1 blkK) (broadcastInDim S1x1024 ![] bcast_S_S1x1024 four)) (broadcastInDim S1x1024 ![] bcast_S_S1x1024 four)) (Host.remsi (broadcastInDim S1x1024 ![1] bcast_S1024_S1x1024_1 blkK) (broadcastInDim S1x1024 ![] bcast_S_S1x1024 four))
/-- The queries' blocks modulo 4. -/
def modQ : IVec S256x1 32 :=
  select (andi (cmpi .ne (cmpi .slt (Host.remsi (broadcastInDim S256x1 ![0] bcast_S256_S256x1_0 blkQ) (broadcastInDim S256x1 ![] bcast_S_S256x1 four)) (broadcastInDim S256x1 ![] bcast_S_S256x1 (constantI S_ 32 0#32))) (broadcastInDim S256x1 ![] bcast_S_S256x1 (cmpi .slt four (constantI S_ 32 0#32)))) (cmpi .ne (Host.remsi (broadcastInDim S256x1 ![0] bcast_S256_S256x1_0 blkQ) (broadcastInDim S256x1 ![] bcast_S_S256x1 four)) (broadcastInDim S256x1 ![] bcast_S_S256x1 (constantI S_ 32 0#32)))) (addi (Host.remsi (broadcastInDim S256x1 ![0] bcast_S256_S256x1_0 blkQ) (broadcastInDim S256x1 ![] bcast_S_S256x1 four)) (broadcastInDim S256x1 ![] bcast_S_S256x1 four)) (Host.remsi (broadcastInDim S256x1 ![0] bcast_S256_S256x1_0 blkQ) (broadcastInDim S256x1 ![] bcast_S_S256x1 four))
/-- The mask: whether query and key are in the same block, or in blocks equal modulo 4. -/
def maskR : IVec S256x1024 1 :=
  ori (cmpi .eq (broadcastInDim S256x1024 ![0, 1] bcast_S256x1_S256x1024_0_1 (broadcastInDim S256x1 ![0] bcast_S256_S256x1_0 blkQ)) (broadcastInDim S256x1024 ![0, 1] bcast_S1x1024_S256x1024_0_1 (broadcastInDim S1x1024 ![1] bcast_S1024_S1x1024_1 blkK))) (cmpi .eq (broadcastInDim S256x1024 ![0, 1] bcast_S1x1024_S256x1024_0_1 modK) (broadcastInDim S256x1024 ![0, 1] bcast_S256x1_S256x1024_0_1 modQ))
/-- Whether the mask keeps any key of a query. -/
def keep : IVec S1x1x256x1 1 := broadcastInDim S1x1x256x1 ![2] bcast_S256_S1x1x256x1_2 (Host.reduce IntOp.ori maskR (constantI S_ 1 0#1) reducesTo_S256x1024_S256_d1 h_S_)

/-- Query `i` is in block `i / 64`. -/
theorem blkQ_apply (i : Fin 256) : blkQ (ix1 i) = BitVec.ofNat 32 (i.val / 64) := by
  unfold blkQ
  pointwise
  revert i; decide +kernel

/-- Key `k` is in block `k / 64`. -/
theorem blkK_apply (k : Fin 1024) : blkK (ix1 k) = BitVec.ofNat 32 (k.val / 64) := by
  unfold blkK
  pointwise
  revert k; decide +kernel

/-- A key's block modulo 4. -/
theorem modK_apply (k : Fin 1024) : modK (ix2 0 k) = BitVec.ofNat 32 (k.val / 64 % 4) := by
  unfold modK four
  pointwise
  simp only [blkK_apply]
  revert k; decide +kernel

/-- A query's block modulo 4 is its block: there are four. -/
theorem modQ_apply (i : Fin 256) : modQ (ix2 i 0) = BitVec.ofNat 32 (i.val / 64) := by
  unfold modQ four
  pointwise
  simp only [blkQ_apply]
  revert i; decide +kernel

/-- The mask keeps key `k` for query `i` where `k`'s block modulo 4 is `i`'s block. -/
theorem maskR_apply (i : Fin 256) (k : Fin 1024) : maskR (ix2 i k) = if i.val / 64 = k.val / 64 % 4 then 1#1 else 0#1 := by
  unfold maskR
  pointwise
  simp only [blkQ_apply, blkK_apply, modK_apply, modQ_apply]
  have hall : ∀ (a : Fin 4) (b : Fin 16), IntOp.ori (IntOp.cmpi .eq (BitVec.ofNat 32 a.val) (BitVec.ofNat 32 b.val))
      (IntOp.cmpi .eq (BitVec.ofNat 32 (b.val % 4)) (BitVec.ofNat 32 a.val)) = if a.val = b.val % 4 then 1#1 else 0#1 := by decide +kernel
  exact hall ⟨i.val / 64, by omega⟩ ⟨k.val / 64, by omega⟩

/-- The mask keeps a key of every query: the one of the query's own number. -/
theorem keep_apply (i : Fin 256) : keep (ix4 0 0 i 0) = 1#1 := by
  unfold keep
  pointwise
  have e := Finset.fold_insert (op := (IntOp.ori : BitVec 1 → BitVec 1 → BitVec 1)) (b := 0#1) (f := fun k => maskR (ix2 i k))
    (Finset.notMem_erase (⟨i.val, by omega⟩ : Fin 1024) Finset.univ)
  rw [Finset.insert_erase (Finset.mem_univ _), maskR_apply, if_pos (by simp only []; omega)] at e
  exact e.trans ((show ∀ w, IntOp.ori 1#1 w = 1#1 by decide) _)

/-! ### The scores and weights -/

/-- The word 0xFF800000 is −∞. -/
theorem neg_inf : Ideal.ofBits .f32 0xFF800000#32 = ⊥ := by simp [Ideal.ofBits, Ideal.ieee]
/-- The column written with its factors exchanged. -/
theorem mul_col (h : Fin 4) (e : Fin 64) (p : h.val * 64 + e.val < 256) : (⟨h.val * 64 + e.val, p⟩ : Fin 256) = col h e := Fin.ext (by simp [Nat.mul_comm])
/-- The head that a column belongs to. -/
theorem col_div (h : Fin 4) (e : Fin 64) (p : (64 * h.val + e.val) / 64 < 4) : (⟨(64 * h.val + e.val) / 64, p⟩ : Fin 4) = h := Fin.ext (by show (64 * h.val + e.val) / 64 = h.val; omega)
/-- A column's place in its head. -/
theorem col_mod (h : Fin 4) (e : Fin 64) (p : (64 * h.val + e.val) % 64 < 64) : (⟨(64 * h.val + e.val) % 64, p⟩ : Fin 64) = e := Fin.ext (by show (64 * h.val + e.val) % 64 = e.val; omega)

section
variable (X : FVec Ideal S2x256x512 .f32) (WQ : FVec Ideal S512x256 .f32) (KK VV : FVec Ideal S2x1024x4x64 .f32) (WO : FVec Ideal S256x512 .f32)

/-- The scaled scores. -/
def scores : FVec Ideal S2x4x256x1024 .f32 :=
  mulf (Host.dotGeneral dot_S2x256x4x64_S2x1024x4x64_S2x4x256x1024_3_3_1_1_02_02 none (shapeCast _ (Host.dotGeneral dot_S2x256x512_S512x256_S2x256x256_2_0_01_1_n_n none X WQ) shapeCasts_S2x256x256_S2x256x4x64) KK) (broadcastInDim S2x4x256x1024 ![] bcast_S_S2x4x256x1024 (constant S_ .f32 0x3E000000#32))
/-- The scores with −∞ where the mask drops the key. -/
def masked : FVec Ideal S2x4x256x1024 .f32 :=
  select (broadcastInDim S2x4x256x1024 ![0, 1, 2, 3] bcast_S1x1x256x1024_S2x4x256x1024_0_1_2_3 (broadcastInDim S1x1x256x1024 ![2, 3] bcast_S256x1024_S1x1x256x1024_2_3 maskR)) (scores X WQ KK) (broadcastInDim S2x4x256x1024 ![] bcast_S_S2x4x256x1024 (id (constant S_ .f32 0xFF800000#32)))
/-- The exponentials of the masked scores lowered by each query's greatest. -/
def lowered : FVec Ideal S2x4x256x1024 .f32 :=
  Host.exp (subf (masked X WQ KK) (broadcastInDim S2x4x256x1024 ![0, 1, 2, 3] bcast_S2x4x256x1_S2x4x256x1024_0_1_2_3 (broadcastInDim S2x4x256x1 ![0, 1, 2] bcast_S2x4x256_S2x4x256x1_0_1_2 (Host.reduce FloatOps.maximumf (masked X WQ KK) (constant S_ .f32 0xFF800000#32) reducesTo_S2x4x256x1024_S2x4x256_d3 h_S_))))
/-- The exponentials divided by their sums. -/
def ratios : FVec Ideal S2x4x256x1024 .f32 :=
  Host.divf (lowered X WQ KK) (broadcastInDim S2x4x256x1024 ![0, 1, 2, 3] bcast_S2x4x256x1_S2x4x256x1024_0_1_2_3 (select (broadcastInDim S2x4x256x1 ![0, 1, 2, 3] bcast_S1x1x256x1_S2x4x256x1_0_1_2_3 keep) (broadcastInDim S2x4x256x1 ![0, 1, 2] bcast_S2x4x256_S2x4x256x1_0_1_2 (Host.reduceAdd (lowered X WQ KK) (constant S_ .f32 0x00000000#32) reducesTo_S2x4x256x1024_S2x4x256_d3 h_S_)) (broadcastInDim S2x4x256x1 ![] bcast_S_S2x4x256x1 (id (constant S_ .f32 0x3F800000#32)))))
/-- The softmax's weights. -/
def weights : FVec Ideal S2x4x256x1024 .f32 :=
  select (broadcastInDim S2x4x256x1024 ![0, 1, 2, 3] bcast_S1x1x256x1_S2x4x256x1024_0_1_2_3 keep) (ratios X WQ KK) (broadcastInDim S2x4x256x1024 ![] bcast_S_S2x4x256x1024 (id (constant S_ .f32 0x00000000#32)))
/-- The result. -/
def resR : FVec Ideal S2x256x512 .f32 :=
  Host.dotGeneral dot_S2x256x256_S256x512_S2x256x512_2_0_01_1_n_n none (shapeCast _ (transpose S2x256x4x64 [0, 3, 1, 2] (Host.dotGeneral dot_S2x1024x4x64_S2x4x256x1024_S2x4x64x256_1_3_3_2_02_01 none VV (weights X WQ KK)) transposes_S2x4x64x256_S2x256x4x64_0_3_1_2) shapeCasts_S2x256x4x64_S2x256x256) WO

/-- A score: the product of query and key, times an eighth. -/
theorem scores_apply (b : Fin 2) (h : Fin 4) (i : Fin 256) (k : Fin 1024) :
    scores X WQ KK (ix4 b h i k) = (∑ e : Fin 64, (∑ x : Fin 512, X (ix3 b i x) * WQ (ix2 x (col h e))) * KK (ix4 b k h e)) * Ideal.ofBits .f32 0x3E000000#32 := by
  unfold scores
  pointwise
  simp only [mul_col]

/-- A masked score: the score where the mask keeps the key, else −∞. -/
theorem masked_apply (b : Fin 2) (h : Fin 4) (i : Fin 256) (k : Fin 1024) :
    masked X WQ KK (ix4 b h i k) = if i.val / 64 = k.val / 64 % 4 then scores X WQ KK (ix4 b h i k) else ⊥ := by
  unfold masked
  pointwise [maskR_apply]
  split_ifs
  · rfl
  · exact neg_inf

/-- An exponential: of the masked score less the greatest of the query's masked scores. -/
theorem lowered_apply (b : Fin 2) (h : Fin 4) (i : Fin 256) (k : Fin 1024) :
    lowered X WQ KK (ix4 b h i k) = Ideal.exp (masked X WQ KK (ix4 b h i k) - Finset.univ.fold max ⊥ fun k => masked X WQ KK (ix4 b h i k)) := by
  unfold lowered
  pointwise
  rw [neg_inf]

/-- A weight: the exponential over the sum of the query's exponentials. -/
theorem weights_apply (b : Fin 2) (h : Fin 4) (i : Fin 256) (k : Fin 1024) :
    weights X WQ KK (ix4 b h i k) = Ideal.div (lowered X WQ KK (ix4 b h i k)) (∑ k' : Fin 1024, lowered X WQ KK (ix4 b h i k')) := by
  unfold weights ratios
  pointwise [keep_apply]

/-- An element of the result: each head's weighted sums of values, through the output matrix. -/
theorem resR_apply (b : Fin 2) (i : Fin 256) (j : Fin 512) :
    resR X WQ KK VV WO (ix3 b i j) = ∑ h : Fin 4, ∑ d : Fin 64, (∑ k : Fin 1024, VV (ix4 b k h d) * weights X WQ KK (ix4 b h i k)) * WO (ix2 (col h d) j) := by
  unfold resR
  pointwise
  rw [sum_col]
  simp only [col_div, col_mod]

end

set_option maxRecDepth 8192 in
/-- The reference's run ends with these stages' result. -/
theorem res_eq (m : (ℓ : Loc nD τ sig) → Buf (Elt Ideal) ℓ) (c : Dev nD) :
    res_out0 m c = resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.ReferenceIdealProof
end
-- ==== Proof.Equal.lean ====
/-
The two programs' results are equal, where the queries' input, the query matrix and the keys are finite.
-/
module

public import proofs.«01_k».proof.Proof.Softmax
public import proofs.«01_k».proof.Proof.RefValue
public import proofs.«01_k».proof.Pre_finite_KernelIdeal
public import Idealize.ShloMosaic.Lib.ReduceAll
public import Idealize.ShloMosaic.Lib.Layout

@[expose] public section

noncomputable section

namespace Cert.Equal

open Idealize.ShloMosaic
open Cert.KernelIdeal (S2x256x512 S512x256 S2x256x4x64 S256x512)
open Cert.ReferenceIdeal (S2x1024x4x64)
open Cert.KernelIdealProof (col scoreK bias bias_apply)
open Cert.ReferenceIdealProof (resR resR_apply weights_apply lowered_apply masked_apply scores_apply)

/-! ### The keys, cut into the devices' blocks -/

/-- Key `r` of device `c` among all the keys. -/
abbrev key (c : Fin 4) (r : Fin 256) : Fin 1024 := ⟨256 * c.val + r.val, by omega⟩

/-- Device `c`'s block of an array of keys or values. -/
abbrev blk (c : Fin 4) (f : FVec Ideal S2x1024x4x64 .f32) : FVec Ideal S2x256x4x64 .f32 := Layout.block ⟨4, ![2, 256, 4, 64]⟩ ⟨4, ![2, 1024, 4, 64]⟩ 1 4 c f

/-- Device `c`'s key `r` is the whole array's key `key c r`. -/
theorem blk_apply (c : Fin 4) (f : FVec Ideal S2x1024x4x64 .f32) (b : Fin 2) (r : Fin 256) (h : Fin 4) (d : Fin 64) :
    blk c f (ix4 b r h d) = f (ix4 b (key c r) h d) := by
  refine congrArg f (funext fun a => Fin.ext ?_)
  rw [Layout.Tiles.idx_val]
  fin_cases a <;> simp [ix4, mul_comm]

/-- A sum over all the keys is the sum over the devices of the sums over their keys. -/
theorem sum_key (f : Fin 1024 → EReal) : ∑ k, f k = ∑ c : Fin 4, ∑ r : Fin 256, f (key c r) :=
  Cert.KernelIdealProof.sum_cut (a := 4) (n := 256) rfl (fun c r => by omega) f

/-! ### The scores, as reals -/

/-- Every element is a real. -/
def Finite {s : Shape} (f : s.Idx → EReal) : Prop := ∃ g : s.Idx → ℝ, f = fun p => (g p : EReal)

/-- An array equal to a finite one is finite. -/
theorem Finite.of_eq {s : Shape} {f g : s.Idx → EReal} (h : Finite f) (e : f = g) : Finite g := e ▸ h

/-- The word 0x3E000000 is an eighth. -/
theorem eighth : Ideal.ofBits .f32 0x3E000000#32 = ((1 / 8 : ℝ) : EReal) := by
  simp [Ideal.ofBits, Ideal.ieee]
  rw [← EReal.coe_mul]
  norm_num

section
variable (x : S2x256x512.Idx → ℝ) (wq : S512x256.Idx → ℝ) (kk : S2x1024x4x64.Idx → ℝ)

/-- The scaled score of query `i` against key `k`. -/
def score (b : Fin 2) (h : Fin 4) (i : Fin 256) (k : Fin 1024) : ℝ :=
  (∑ e : Fin 64, (∑ y : Fin 512, x (ix3 b i y) * wq (ix2 y (col h e))) * kk (ix4 b k h e)) * (1 / 8)

/-- The reference scales the product of query and key. -/
theorem scores_real (b : Fin 2) (h : Fin 4) (i : Fin 256) (k : Fin 1024) :
    Cert.ReferenceIdealProof.scores (fun p => (x p : EReal)) (fun p => (wq p : EReal)) (fun p => (kk p : EReal)) (ix4 b h i k) = (score x wq kk b h i k : EReal) := by
  rw [scores_apply, eighth]
  unfold score
  simp only [← EReal.coe_mul, ← Softmax.coe_sum]

/-- The kernel scales the query matrix. -/
theorem scoreK_real (c : Fin 4) (b : Fin 2) (h : Fin 4) (i r : Fin 256) :
    scoreK (fun p => (x p : EReal)) (fun p => (wq p : EReal)) (blk c fun p => (kk p : EReal)) b h i r = (score x wq kk b h i (key c r) : EReal) := by
  unfold scoreK score
  simp only [blk_apply, eighth, ← EReal.coe_mul, ← Softmax.coe_sum]
  congr 1
  simp only [Finset.sum_mul]
  exact Finset.sum_congr rfl fun e _ => Finset.sum_congr rfl fun y _ => by ring
end

/-- The kernel's result is the reference's. -/
theorem equal {X : FVec Ideal S2x256x512 .f32} {WQ : FVec Ideal S512x256 .f32} {KK : FVec Ideal S2x1024x4x64 .f32} (hX : Finite X) (hW : Finite WQ) (hK : Finite KK)
    (VV : FVec Ideal S2x1024x4x64 .f32) (WO : FVec Ideal S256x512 .f32) (b : Fin 2) (i : Fin 256) (j : Fin 512) :
    (∑ h : Fin 4, ∑ d : Fin 64,
      (∑ c : Fin 4, ∑ r : Fin 256, Ideal.exp (scoreK X WQ (blk c KK) b h i r + bias (F := Ideal) (ix2 i r)) * blk c VV (ix4 b r h d))
        * Ideal.div 1 (∑ c : Fin 4, ∑ r : Fin 256, Ideal.exp (scoreK X WQ (blk c KK) b h i r + bias (F := Ideal) (ix2 i r))) * WO (ix2 (col h d) j) : EReal)
      = resR X WQ KK VV WO (ix3 b i j) := by
  obtain ⟨x, rfl⟩ := hX
  obtain ⟨wq, rfl⟩ := hW
  obtain ⟨kk, rfl⟩ := hK
  rw [resR_apply]
  refine Finset.sum_congr rfl fun h _ => Finset.sum_congr rfl fun d _ => ?_
  have hp (c : Fin 4) (r : Fin 256) : (i.val / 64 = r.val / 64) = (i.val / 64 = (key c r).val / 64 % 4) := propext (by simp only []; omega)
  have ht (c : Fin 4) (r : Fin 256) : Ideal.exp (scoreK (fun p => (x p : EReal)) (fun p => (wq p : EReal)) (blk c fun p => (kk p : EReal)) b h i r + bias (F := Ideal) (ix2 i r))
      = Ideal.exp ((score x wq kk b h i (key c r) : EReal) + if i.val / 64 = (key c r).val / 64 % 4 then 0 else ⊥) := by
    rw [scoreK_real, bias_apply]; simp only [hp c r]
  simp only [ht, blk_apply]
  rw [← sum_key fun k => Ideal.exp ((score x wq kk b h i k : EReal) + if i.val / 64 = k.val / 64 % 4 then 0 else ⊥) * VV (ix4 b k h d),
    ← sum_key fun k => Ideal.exp ((score x wq kk b h i k : EReal) + if i.val / 64 = k.val / 64 % 4 then 0 else ⊥),
    Softmax.normalize (score x wq kk b h i) (fun k : Fin 1024 => i.val / 64 = k.val / 64 % 4) (fun k => VV (ix4 b k h d)) (k₀ := key 0 i) (by show i.val / 64 = (256 * 0 + i.val) / 64 % 4; omega)]
  simp only [weights_apply, lowered_apply, masked_apply, scores_real]

/-! ### The precondition -/

/-- An absolute value below +∞ is a real's. -/
theorem real_of_lt {a : EReal} (h : FloatOps.cmpf (F := Ideal) (φ := .f32) .olt (FloatOps.absf (F := Ideal) (φ := .f32) a) (Ideal.ofBits .f32 0x7F800000#32) = 1#1) : ∃ r : ℝ, a = (r : EReal) := by
  have h' : max a (-a) < Ideal.ofBits .f32 0x7F800000#32 := by
    by_contra hn
    rw [show FloatOps.cmpf (F := Ideal) (φ := .f32) .olt (FloatOps.absf (F := Ideal) (φ := .f32) a) (Ideal.ofBits .f32 0x7F800000#32)
      = BitVec.ofBool (decide (max a (-a) < Ideal.ofBits .f32 0x7F800000#32)) from rfl, decide_eq_false hn] at h
    exact absurd h (by decide)
  rw [show Ideal.ofBits .f32 0x7F800000#32 = ⊤ by simp [Ideal.ofBits, Ideal.ieee]] at h'
  have h1 := (le_max_left a (-a)).trans_lt h'
  have h2 := (le_max_right a (-a)).trans_lt h'
  exact ⟨a.toReal, (EReal.coe_toReal h1.ne fun e => by rw [e] at h2; simp at h2).symm⟩

/-- The precondition says that the three arrays it names are finite. -/
theorem finite_of_pre [Cert.Pre_finite_KernelIdeal.Facts] {X : FVec Ideal S2x256x512 .f32} {WQ : FVec Ideal S512x256 .f32} {KK VV : FVec Ideal S2x256x4x64 .f32} {WO : FVec Ideal S256x512 .f32}
    (h : Cert.Pre_finite_KernelIdeal.fn X WQ KK VV WO = fun _ => 1#1) : Finite X ∧ Finite WQ ∧ Finite KK := by
  have h0 := congrFun h ix0
  unfold Cert.Pre_finite_KernelIdeal.fn at h0
  obtain ⟨h1, hk⟩ := IntOp.andi_eq_one.1 h0
  obtain ⟨hx, hw⟩ := IntOp.andi_eq_one.1 h1
  have fx := fun p => real_of_lt (Host.reduce_andi_all _ _ _ _ _ hx p)
  have fw := fun p => real_of_lt (Host.reduce_andi_all _ _ _ _ _ hw p)
  have fk := fun p => real_of_lt (Host.reduce_andi_all _ _ _ _ _ hk p)
  choose x hx using fx
  choose w hw using fw
  choose k hk using fk
  exact ⟨⟨x, funext hx⟩, ⟨w, funext hw⟩, ⟨k, funext hk⟩⟩

/-- An array whose blocks are all finite is finite. -/
theorem finite_of_blocks {f : FVec Ideal S2x1024x4x64 .f32} (h : ∀ c, Finite (blk c f)) : Finite f := by
  choose g hg using h
  refine ⟨fun p => g ⟨(p 1).val / 256, by have := (p 1).isLt; simp at this; omega⟩ (ix4 (p 0) ⟨(p 1).val % 256, by omega⟩ (p 2) (p 3)), funext fun p => ?_⟩
  refine Eq.trans ?_ ((blk_apply _ f (p 0) ⟨(p 1).val % 256, by omega⟩ (p 2) (p 3)).symm.trans (congrFun (hg ⟨(p 1).val / 256, by have := (p 1).isLt; simp at this; omega⟩) _))
  refine congrArg f (funext fun a => Fin.ext ?_)
  fin_cases a <;> simp [ix4]
  omega

end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Bits.Launch
public import proofs.«01_k».proof.Proof.Result
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The kernel as printed: it terminates, its arguments end as they began, and every counter is zero again. -/
theorem frame_kernel : Cert.quiescent_Kernel := by
  intro m ρ _
  exact (θ_run Cert.Kernel.defs _ _).mono (fun _ h => ⟨fun c =>
      ⟨(h.1 c (0 : Fin 6)).trans (Cert.KernelProof.finalA_in m ρ c 0 (by decide)), (h.1 c (1 : Fin 6)).trans (Cert.KernelProof.finalA_in m ρ c 1 (by decide)),
       (h.1 c (2 : Fin 6)).trans (Cert.KernelProof.finalA_in m ρ c 2 (by decide)), (h.1 c (3 : Fin 6)).trans (Cert.KernelProof.finalA_in m ρ c 3 (by decide)),
       (h.1 c (4 : Fin 6)).trans (Cert.KernelProof.finalA_in m ρ c 4 (by decide))⟩, h.2⟩)
    (Cert.KernelProof.run_main (F := Bits) m ρ)

/-- The idealized kernel: the same. -/
theorem frame_ideal : Cert.quiescent_KernelIdeal := by
  intro m ρ _
  exact (θ_run Cert.KernelIdeal.defs _ _).mono (fun _ h => ⟨fun c =>
      ⟨(h.1 c (0 : Fin 6)).trans (Cert.KernelIdealProof.finalA_in m ρ c 0 (by decide)), (h.1 c (1 : Fin 6)).trans (Cert.KernelIdealProof.finalA_in m ρ c 1 (by decide)),
       (h.1 c (2 : Fin 6)).trans (Cert.KernelIdealProof.finalA_in m ρ c 2 (by decide)), (h.1 c (3 : Fin 6)).trans (Cert.KernelIdealProof.finalA_in m ρ c 3 (by decide)),
       (h.1 c (4 : Fin 6)).trans (Cert.KernelIdealProof.finalA_in m ρ c 4 (by decide))⟩, h.2⟩)
    (Cert.KernelIdealProof.run_main (F := Ideal) m ρ)

/-- The reference: it terminates, its arguments end as they began; it has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The mask's constant is the one value that the idealization names. -/
theorem preserves : Cert.preserves_Kernel_KernelIdeal :=
  IdealRules.named_const.statement Cert.KernelIdeal.κ "mask" .f32 0xCE6E6B28#32 ⊥ rfl

/-- What a device's result holds at the end is the reference's result. -/
theorem result_eq (m : (ℓ : Loc Cert.KernelIdeal.nD Cert.KernelIdeal.τ Cert.KernelIdeal.sig) → Buf (Elt Ideal) ℓ) (ρ : Dev Cert.KernelIdeal.nD → PrngReg)
    {X : FVec Ideal Cert.KernelIdeal.S2x256x512 .f32} {WQ : FVec Ideal Cert.KernelIdeal.S512x256 .f32} {KK VV : FVec Ideal Cert.ReferenceIdeal.S2x1024x4x64 .f32}
    {WO : FVec Ideal Cert.KernelIdeal.S256x512 .f32}
    (hX : ∀ c : Dev Cert.KernelIdeal.nD, m ((c : Thread Cert.KernelIdeal.nD Cert.KernelIdeal.τ).loc Cert.KernelIdeal.main_arg0) = X)
    (hW : ∀ c : Dev Cert.KernelIdeal.nD, m ((c : Thread Cert.KernelIdeal.nD Cert.KernelIdeal.τ).loc Cert.KernelIdeal.main_arg1) = WQ)
    (hK : ∀ c : Dev Cert.KernelIdeal.nD, m ((c : Thread Cert.KernelIdeal.nD Cert.KernelIdeal.τ).loc Cert.KernelIdeal.main_arg2) = Cert.Equal.blk c KK)
    (hV : ∀ c : Dev Cert.KernelIdeal.nD, m ((c : Thread Cert.KernelIdeal.nD Cert.KernelIdeal.τ).loc Cert.KernelIdeal.main_arg3) = Cert.Equal.blk c VV)
    (hO : ∀ c : Dev Cert.KernelIdeal.nD, m ((c : Thread Cert.KernelIdeal.nD Cert.KernelIdeal.τ).loc Cert.KernelIdeal.main_arg4) = WO)
    (fX : Cert.Equal.Finite X) (fW : Cert.Equal.Finite WQ) (fK : Cert.Equal.Finite KK) (c : Dev Cert.KernelIdeal.nD) :
    Cert.KernelIdealProof.outV m ρ c = Cert.ReferenceIdealProof.resR X WQ KK VV WO := by
  have key (b : Fin 2) (i : Fin 256) (j : Fin 512) : Cert.KernelIdealProof.outV m ρ c (ix3 b i j) = Cert.ReferenceIdealProof.resR X WQ KK VV WO (ix3 b i j) := by
    rw [Cert.KernelIdealProof.final_apply, ← Cert.Equal.equal fX fW fK]
    simp only [hX, hW, hK, hV, hO]
  exact funext fun p => (congrArg _ (eq_ix3 p)).trans ((key (p 0) (p 1) (p 2)).trans (congrArg _ (eq_ix3 p).symm))

/-- Over the reals the kernel's result, on every device, is the reference's. -/
theorem algebraic : Cert.algebraic_KernelIdeal_ReferenceIdeal_pre_finite_KernelIdeal := by
  intro m ρ m' ρ' hpre hagree
  have hfin := fun c => Cert.Equal.finite_of_pre (hpre c)
  refine ⟨Cert.ReferenceIdeal.Value.res_out0 m' 0, ?_, (θ_run Cert.ReferenceIdeal.defs _ _).mono (fun _ h => h 0) (Cert.ReferenceIdeal.Value.run (F := Ideal) m' ρ')⟩
  refine (θ_run Cert.KernelIdeal.defs _ _).mono (fun _ h c =>
      ⟨(h.1 c (5 : Fin 6)).trans ?_, (h.1 c (0 : Fin 6)).trans (Cert.KernelIdealProof.finalA_in m ρ c 0 (by decide)), (h.1 c (1 : Fin 6)).trans (Cert.KernelIdealProof.finalA_in m ρ c 1 (by decide)),
       (h.1 c (2 : Fin 6)).trans (Cert.KernelIdealProof.finalA_in m ρ c 2 (by decide)), (h.1 c (3 : Fin 6)).trans (Cert.KernelIdealProof.finalA_in m ρ c 3 (by decide)),
       (h.1 c (4 : Fin 6)).trans (Cert.KernelIdealProof.finalA_in m ρ c 4 (by decide))⟩)
    (Cert.KernelIdealProof.run_main (F := Ideal) m ρ)
  exact (Cert.KernelIdealProof.finalA_eq m ρ c).trans ((result_eq m ρ (fun c => (hagree c).1) (fun c => (hagree c).2.1) (fun c => (hagree c).2.2.1) (fun c => (hagree c).2.2.2.1)
    (fun c => (hagree c).2.2.2.2) ((hfin 0).1.of_eq (hagree 0).1) ((hfin 0).2.1.of_eq (hagree 0).2.1)
    (Cert.Equal.finite_of_blocks fun c => (hfin c).2.2.of_eq (hagree c).2.2.1) c).trans (Cert.ReferenceIdealProof.res_eq m' 0).symm)

/-- The whole claim. -/
theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_kernel, frame_ideal, fun m g _ => frame_ideal m g trivial, frame_reference, fun m g _ => frame_reference m g trivial, preserves, algebraic⟩

end Cert.Proof

end
